-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_values [hPre_bf16_values : Cert.Pre_bf16_values.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_values [hPre_bf16_values : Cert.Pre_bf16_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bf16_values [hKernelIdeal : Cert.KernelIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bf16_values [hReferenceIdeal : Cert.ReferenceIdeal.Facts] [hPre_bf16_values : Cert.Pre_bf16_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bf16_values [hKernelIdeal : Cert.KernelIdeal.Facts] [hReferenceIdeal : Cert.ReferenceIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bf16_values : Cert.Pre_bf16_values.Facts),
    quiescent_Kernel (hKernel := hKernel)
    ∧ quiescent_KernelIdeal (hKernelIdeal := hKernelIdeal)
    ∧ quiescent_KernelIdeal_pre_bf16_values (hKernelIdeal := hKernelIdeal) (hPre_bf16_values := hPre_bf16_values)
    ∧ quiescent_ReferenceIdeal (hReferenceIdeal := hReferenceIdeal)
    ∧ quiescent_ReferenceIdeal_pre_bf16_values (hReferenceIdeal := hReferenceIdeal) (hPre_bf16_values := hPre_bf16_values)
    ∧ preserves_Kernel_KernelIdeal
    ∧ algebraic_KernelIdeal_ReferenceIdeal_pre_bf16_values (hKernelIdeal := hKernelIdeal) (hReferenceIdeal := hReferenceIdeal) (hPre_bf16_values := hPre_bf16_values)
-- ==== Pre_bf16_values.lean ====
abbrev S2x6144x8192 : Shape := ⟨3, ![2, 6144, 8192]⟩
abbrev S16x8192x256 : Shape := ⟨3, ![16, 8192, 256]⟩
abbrev S16x64x2 : Shape := ⟨3, ![16, 64, 2]⟩
abbrev S_ : Shape := ⟨0, ![]⟩

class Facts : Prop where
  bitsLt_bf16_f32 : FTy.bits .bf16 < FTy.bits .f32
  bcast_S_S2x6144x8192 : S_.BroadcastsInDim S2x6144x8192 (![] : Fin 0 → Fin S2x6144x8192.rank)

variable [Facts]

def fn {F : FTy → Type} [FloatOps F] (main_arg0 : FVec F S2x6144x8192 .bf16) (main_arg1 : FVec F S16x8192x256 .fp8e4m3) (main_arg2 : FVec F S16x64x2 .f32) : IVec S2x6144x8192 1 :=
  let main_v0 : FVec F S2x6144x8192 .f32 := (extf .f32 · bitsLt_bf16_f32) main_arg0
  let main_v1 : FVec F S2x6144x8192 .f32 := Host.absf main_v0
  let main_cst : FVec F S_ .f32 := constant S_ .f32 0x7F7F0000#32
  let main_v2 : FVec F S2x6144x8192 .f32 := broadcastInDim S2x6144x8192 ![] bcast_S_S2x6144x8192 main_cst
  let main_v3 : IVec S2x6144x8192 1 := cmpf .ole main_v1 main_v2
  let main_cst_0 : FVec F S_ .f32 := constant S_ .f32 0x7F800000#32
  let main_v4 : FVec F S2x6144x8192 .f32 := broadcastInDim S2x6144x8192 ![] bcast_S_S2x6144x8192 main_cst_0
  let main_v5 : IVec S2x6144x8192 1 := cmpf .oeq main_v1 main_v4
  let main_v6 : IVec S2x6144x8192 1 := ori main_v3 main_v5
  main_v6
-- ==== Kernel.lean ====
abbrev S2x6144x8192 : Shape := ⟨3, ![2, 6144, 8192]⟩
abbrev S16x8192x256 : Shape := ⟨3, ![16, 8192, 256]⟩
abbrev S16x64x2 : Shape := ⟨3, ![16, 64, 2]⟩
abbrev S16x2x64 : Shape := ⟨3, ![16, 2, 64]⟩
abbrev S12288x8192 : Shape := ⟨2, ![12288, 8192]⟩
abbrev S12288x4096 : Shape := ⟨2, ![12288, 4096]⟩
abbrev S12288x64 : Shape := ⟨2, ![12288, 64]⟩
abbrev S512x8192 : Shape := ⟨2, ![512, 8192]⟩
abbrev S2x8192x256 : Shape := ⟨3, ![2, 8192, 256]⟩
abbrev S512x512 : Shape := ⟨2, ![512, 512]⟩
abbrev S512x64 : Shape := ⟨2, ![512, 64]⟩
abbrev S512x128 : Shape := ⟨2, ![512, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S1x1x1 : Shape := ⟨3, ![1, 1, 1]⟩
abbrev S128x256 : Shape := ⟨2, ![128, 256]⟩
abbrev S8192x256 : Shape := ⟨2, ![8192, 256]⟩
abbrev S512x256 : Shape := ⟨2, ![512, 256]⟩

abbrev nBuf : Space → Nat
  | .hbm => 8
  | .vmem => 11
  | .smem => 1
  | _ => 0

abbrev bufTy : (tb : Table) → Fin (tcTables nBuf tb) → BufTy
  | .hbm, ⟨0, _⟩ => ⟨S2x6144x8192, .bf16⟩
  | .hbm, ⟨1, _⟩ => ⟨S16x8192x256, .fp8e4m3⟩
  | .hbm, ⟨2, _⟩ => ⟨S16x64x2, .f32⟩
  | .hbm, ⟨3, _⟩ => ⟨S16x2x64, .f32⟩
  | .hbm, ⟨4, _⟩ => ⟨S12288x8192, .bf16⟩
  | .hbm, ⟨5, _⟩ => ⟨S12288x4096, .bf16⟩
  | .hbm, ⟨6, _⟩ => ⟨S12288x8192, .fp8e4m3⟩
  | .hbm, ⟨7, _⟩ => ⟨S12288x64, .f32⟩
  | .local _ .vmem, ⟨0, _⟩ => ⟨S512x8192, .bf16⟩
  | .local _ .vmem, ⟨1, _⟩ => ⟨S512x8192, .bf16⟩
  | .local _ .vmem, ⟨2, _⟩ => ⟨S2x8192x256, .fp8e4m3⟩
  | .local _ .vmem, ⟨3, _⟩ => ⟨S2x8192x256, .fp8e4m3⟩
  | .local _ .vmem, ⟨4, _⟩ => ⟨S512x512, .bf16⟩
  | .local _ .vmem, ⟨5, _⟩ => ⟨S512x512, .bf16⟩
  | .local _ .vmem, ⟨6, _⟩ => ⟨S512x8192, .fp8e4m3⟩
  | .local _ .vmem, ⟨7, _⟩ => ⟨S512x8192, .fp8e4m3⟩
  | .local _ .vmem, ⟨8, _⟩ => ⟨S512x64, .f32⟩
  | .local _ .vmem, ⟨9, _⟩ => ⟨S512x64, .f32⟩
  | .local _ .vmem, ⟨10, _⟩ => ⟨S512x8192, .bf16⟩
  | .local _ .smem, ⟨0, _⟩ => ⟨S16x2x64, .f32⟩
  | _, _ => ⟨S2x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 8], ![false, false]⟩

def k0_off1 (i : grid0.Coords) (c0_i32_3 : BitVec 32) : Fin 3 → Nat :=
  let arg1 : BitVec 32 := BitVec.ofNat 32 (i 1).val
  let c2_i32 : BitVec 32 := 2#32
  let v5 : BitVec 32 := Scalar.muli arg1 c2_i32
  let v6 : BitVec 32 := Scalar.addi v5 c0_i32_3
  let v7 : Index := Scalar.indexCast v6
  let c0_4 : Index := 0#32
  let c0_5 : Index := 0#32
  ![v7.toNat, 0, 0]
def k0_off2 (i : grid0.Coords) (c0_i32_9 : BitVec 32) : Fin 3 → Nat :=
  let arg1 : BitVec 32 := BitVec.ofNat 32 (i 1).val
  let c2_i32_8 : BitVec 32 := 2#32
  let v15 : BitVec 32 := Scalar.muli arg1 c2_i32_8
  let v16 : BitVec 32 := Scalar.addi v15 c0_i32_9
  let v17 : Index := Scalar.indexCast v16
  let c1 : Index := 1#32
  let c0_10 : Index := 0#32
  ![v17.toNat, 1, 0]
def k0_off3 (i : grid0.Coords) (c0_i32_15 : BitVec 32) : Fin 3 → Nat :=
  let arg1 : BitVec 32 := BitVec.ofNat 32 (i 1).val
  let c2_i32_14 : BitVec 32 := 2#32
  let v26 : BitVec 32 := Scalar.muli arg1 c2_i32_14
  let v27 : BitVec 32 := Scalar.addi v26 c0_i32_15
  let v28 : Index := Scalar.indexCast v27
  let c0_16 : Index := 0#32
  let c1_17 : Index := 1#32
  ![v28.toNat, 0, 1]
def k0_off4 (i : grid0.Coords) (c0_i32_22 : BitVec 32) : Fin 3 → Nat :=
  let arg1 : BitVec 32 := BitVec.ofNat 32 (i 1).val
  let c2_i32_21 : BitVec 32 := 2#32
  let v36 : BitVec 32 := Scalar.muli arg1 c2_i32_21
  let v37 : BitVec 32 := Scalar.addi v36 c0_i32_22
  let v38 : Index := Scalar.indexCast v37
  let c1_23 : Index := 1#32
  let c1_24 : Index := 1#32
  ![v38.toNat, 1, 1]
def k0_off5 (i : grid0.Coords) (c0_i32_28 : BitVec 32) : Fin 3 → Nat :=
  let arg1 : BitVec 32 := BitVec.ofNat 32 (i 1).val
  let c2_i32_27 : BitVec 32 := 2#32
  let v47 : BitVec 32 := Scalar.muli arg1 c2_i32_27
  let v48 : BitVec 32 := Scalar.addi v47 c0_i32_28
  let v49 : Index := Scalar.indexCast v48
  let c0_29 : Index := 0#32
  let c2 : Index := 2#32
  ![v49.toNat, 0, 2]
def k0_off6 (i : grid0.Coords) (c0_i32_34 : BitVec 32) : Fin 3 → Nat :=
  let arg1 : BitVec 32 := BitVec.ofNat 32 (i 1).val
  let c2_i32_33 : BitVec 32 := 2#32
  let v57 : BitVec 32 := Scalar.muli arg1 c2_i32_33
  let v58 : BitVec 32 := Scalar.addi v57 c0_i32_34
  let v59 : Index := Scalar.indexCast v58
  let c1_35 : Index := 1#32
  let c2_36 : Index := 2#32
  ![v59.toNat, 1, 2]
def k0_off7 (i : grid0.Coords) (c0_i32_40 : BitVec 32) : Fin 3 → Nat :=
  let arg1 : BitVec 32 := BitVec.ofNat 32 (i 1).val
  let c2_i32_39 : BitVec 32 := 2#32
  let v68 : BitVec 32 := Scalar.muli arg1 c2_i32_39
  let v69 : BitVec 32 := Scalar.addi v68 c0_i32_40
  let v70 : Index := Scalar.indexCast v69
  let c0_41 : Index := 0#32
  let c3 : Index := 3#32
  ![v70.toNat, 0, 3]
def k0_off8 (i : grid0.Coords) (c0_i32_46 : BitVec 32) : Fin 3 → Nat :=
  let arg1 : BitVec 32 := BitVec.ofNat 32 (i 1).val
  let c2_i32_45 : BitVec 32 := 2#32
  let v78 : BitVec 32 := Scalar.muli arg1 c2_i32_45
  let v79 : BitVec 32 := Scalar.addi v78 c0_i32_46
  let v80 : Index := Scalar.indexCast v79
  let c1_47 : Index := 1#32
  let c3_48 : Index := 3#32
  ![v80.toNat, 1, 3]
def k0_off9 (i : grid0.Coords) (c0_i32_52 : BitVec 32) : Fin 3 → Nat :=
  let arg1 : BitVec 32 := BitVec.ofNat 32 (i 1).val
  let c2_i32_51 : BitVec 32 := 2#32
  let v89 : BitVec 32 := Scalar.muli arg1 c2_i32_51
  let v90 : BitVec 32 := Scalar.addi v89 c0_i32_52
  let v91 : Index := Scalar.indexCast v90
  let c0_53 : Index := 0#32
  let c4 : Index := 4#32
  ![v91.toNat, 0, 4]
def k0_off10 (i : grid0.Coords) (c0_i32_58 : BitVec 32) : Fin 3 → Nat :=
  let arg1 : BitVec 32 := BitVec.ofNat 32 (i 1).val
  let c2_i32_57 : BitVec 32 := 2#32
  let v99 : BitVec 32 := Scalar.muli arg1 c2_i32_57
  let v100 : BitVec 32 := Scalar.addi v99 c0_i32_58
  let v101 : Index := Scalar.indexCast v100
  let c1_59 : Index := 1#32
  let c4_60 : Index := 4#32
  ![v101.toNat, 1, 4]
def k0_off11 (i : grid0.Coords) (c0_i32_64 : BitVec 32) : Fin 3 → Nat :=
  let arg1 : BitVec 32 := BitVec.ofNat 32 (i 1).val
  let c2_i32_63 : BitVec 32 := 2#32
  let v110 : BitVec 32 := Scalar.muli arg1 c2_i32_63
  let v111 : BitVec 32 := Scalar.addi v110 c0_i32_64
  let v112 : Index := Scalar.indexCast v111
  let c0_65 : Index := 0#32
  let c5 : Index := 5#32
  ![v112.toNat, 0, 5]
def k0_off12 (i : grid0.Coords) (c0_i32_70 : BitVec 32) : Fin 3 → Nat :=
  let arg1 : BitVec 32 := BitVec.ofNat 32 (i 1).val
  let c2_i32_69 : BitVec 32 := 2#32
  let v120 : BitVec 32 := Scalar.muli arg1 c2_i32_69
  let v121 : BitVec 32 := Scalar.addi v120 c0_i32_70
  let v122 : Index := Scalar.indexCast v121
  let c1_71 : Index := 1#32
  let c5_72 : Index := 5#32
  ![v122.toNat, 1, 5]
def k0_off13 (i : grid0.Coords) (c0_i32_76 : BitVec 32) : Fin 3 → Nat :=
  let arg1 : BitVec 32 := BitVec.ofNat 32 (i 1).val
  let c2_i32_75 : BitVec 32 := 2#32
  let v131 : BitVec 32 := Scalar.muli arg1 c2_i32_75
  let v132 : BitVec 32 := Scalar.addi v131 c0_i32_76
  let v133 : Index := Scalar.indexCast v132
  let c0_77 : Index := 0#32
  let c6 : Index := 6#32
  ![v133.toNat, 0, 6]
def k0_off14 (i : grid0.Coords) (c0_i32_82 : BitVec 32) : Fin 3 → Nat :=
  let arg1 : BitVec 32 := BitVec.ofNat 32 (i 1).val
  let c2_i32_81 : BitVec 32 := 2#32
  let v141 : BitVec 32 := Scalar.muli arg1 c2_i32_81
  let v142 : BitVec 32 := Scalar.addi v141 c0_i32_82
  let v143 : Index := Scalar.indexCast v142
  let c1_83 : Index := 1#32
  let c6_84 : Index := 6#32
  ![v143.toNat, 1, 6]
def k0_off15 (i : grid0.Coords) (c0_i32_88 : BitVec 32) : Fin 3 → Nat :=
  let arg1 : BitVec 32 := BitVec.ofNat 32 (i 1).val
  let c2_i32_87 : BitVec 32 := 2#32
  let v152 : BitVec 32 := Scalar.muli arg1 c2_i32_87
  let v153 : BitVec 32 := Scalar.addi v152 c0_i32_88
  let v154 : Index := Scalar.indexCast v153
  let c0_89 : Index := 0#32
  let c7 : Index := 7#32
  ![v154.toNat, 0, 7]
def k0_off16 (i : grid0.Coords) (c0_i32_94 : BitVec 32) : Fin 3 → Nat :=
  let arg1 : BitVec 32 := BitVec.ofNat 32 (i 1).val
  let c2_i32_93 : BitVec 32 := 2#32
  let v162 : BitVec 32 := Scalar.muli arg1 c2_i32_93
  let v163 : BitVec 32 := Scalar.addi v162 c0_i32_94
  let v164 : Index := Scalar.indexCast v163
  let c1_95 : Index := 1#32
  let c7_96 : Index := 7#32
  ![v164.toNat, 1, 7]
def k0_off17 (i : grid0.Coords) (c0_i32_100 : BitVec 32) : Fin 3 → Nat :=
  let arg1 : BitVec 32 := BitVec.ofNat 32 (i 1).val
  let c2_i32_99 : BitVec 32 := 2#32
  let v173 : BitVec 32 := Scalar.muli arg1 c2_i32_99
  let v174 : BitVec 32 := Scalar.addi v173 c0_i32_100
  let v175 : Index := Scalar.indexCast v174
  let c0_101 : Index := 0#32
  let c8 : Index := 8#32
  ![v175.toNat, 0, 8]
def k0_off18 (i : grid0.Coords) (c0_i32_106 : BitVec 32) : Fin 3 → Nat :=
  let arg1 : BitVec 32 := BitVec.ofNat 32 (i 1).val
  let c2_i32_105 : BitVec 32 := 2#32
  let v183 : BitVec 32 := Scalar.muli arg1 c2_i32_105
  let v184 : BitVec 32 := Scalar.addi v183 c0_i32_106
  let v185 : Index := Scalar.indexCast v184
  let c1_107 : Index := 1#32
  let c8_108 : Index := 8#32
  ![v185.toNat, 1, 8]
def k0_off19 (i : grid0.Coords) (c0_i32_112 : BitVec 32) : Fin 3 → Nat :=
  let arg1 : BitVec 32 := BitVec.ofNat 32 (i 1).val
  let c2_i32_111 : BitVec 32 := 2#32
  let v194 : BitVec 32 := Scalar.muli arg1 c2_i32_111
  let v195 : BitVec 32 := Scalar.addi v194 c0_i32_112
  let v196 : Index := Scalar.indexCast v195
  let c0_113 : Index := 0#32
  let c9 : Index := 9#32
  ![v196.toNat, 0, 9]
def k0_off20 (i : grid0.Coords) (c0_i32_118 : BitVec 32) : Fin 3 → Nat :=
  let arg1 : BitVec 32 := BitVec.ofNat 32 (i 1).val
  let c2_i32_117 : BitVec 32 := 2#32
  let v204 : BitVec 32 := Scalar.muli arg1 c2_i32_117
  let v205 : BitVec 32 := Scalar.addi v204 c0_i32_118
  let v206 : Index := Scalar.indexCast v205
  let c1_119 : Index := 1#32
  let c9_120 : Index := 9#32
  ![v206.toNat, 1, 9]
def k0_off21 (i : grid0.Coords) (c0_i32_124 : BitVec 32) : Fin 3 → Nat :=
  let arg1 : BitVec 32 := BitVec.ofNat 32 (i 1).val
  let c2_i32_123 : BitVec 32 := 2#32
  let v215 : BitVec 32 := Scalar.muli arg1 c2_i32_123
  let v216 : BitVec 32 := Scalar.addi v215 c0_i32_124
  let v217 : Index := Scalar.indexCast v216
  let c0_125 : Index := 0#32
  let c10 : Index := 10#32
  ![v217.toNat, 0, 10]
def k0_off22 (i : grid0.Coords) (c0_i32_130 : BitVec 32) : Fin 3 → Nat :=
  let arg1 : BitVec 32 := BitVec.ofNat 32 (i 1).val
  let c2_i32_129 : BitVec 32 := 2#32
  let v225 : BitVec 32 := Scalar.muli arg1 c2_i32_129
  let v226 : BitVec 32 := Scalar.addi v225 c0_i32_130
  let v227 : Index := Scalar.indexCast v226
  let c1_131 : Index := 1#32
  let c10_132 : Index := 10#32
  ![v227.toNat, 1, 10]
def k0_off23 (i : grid0.Coords) (c0_i32_136 : BitVec 32) : Fin 3 → Nat :=
  let arg1 : BitVec 32 := BitVec.ofNat 32 (i 1).val
  let c2_i32_135 : BitVec 32 := 2#32
  let v236 : BitVec 32 := Scalar.muli arg1 c2_i32_135
  let v237 : BitVec 32 := Scalar.addi v236 c0_i32_136
  let v238 : Index := Scalar.indexCast v237
  let c0_137 : Index := 0#32
  let c11 : Index := 11#32
  ![v238.toNat, 0, 11]
def k0_off24 (i : grid0.Coords) (c0_i32_142 : BitVec 32) : Fin 3 → Nat :=
  let arg1 : BitVec 32 := BitVec.ofNat 32 (i 1).val
  let c2_i32_141 : BitVec 32 := 2#32
  let v246 : BitVec 32 := Scalar.muli arg1 c2_i32_141
  let v247 : BitVec 32 := Scalar.addi v246 c0_i32_142
  let v248 : Index := Scalar.indexCast v247
  let c1_143 : Index := 1#32
  let c11_144 : Index := 11#32
  ![v248.toNat, 1, 11]
def k0_off25 (i : grid0.Coords) (c0_i32_148 : BitVec 32) : Fin 3 → Nat :=
  let arg1 : BitVec 32 := BitVec.ofNat 32 (i 1).val
  let c2_i32_147 : BitVec 32 := 2#32
  let v257 : BitVec 32 := Scalar.muli arg1 c2_i32_147
  let v258 : BitVec 32 := Scalar.addi v257 c0_i32_148
  let v259 : Index := Scalar.indexCast v258
  let c0_149 : Index := 0#32
  let c12 : Index := 12#32
  ![v259.toNat, 0, 12]
def k0_off26 (i : grid0.Coords) (c0_i32_154 : BitVec 32) : Fin 3 → Nat :=
  let arg1 : BitVec 32 := BitVec.ofNat 32 (i 1).val
  let c2_i32_153 : BitVec 32 := 2#32
  let v267 : BitVec 32 := Scalar.muli arg1 c2_i32_153
  let v268 : BitVec 32 := Scalar.addi v267 c0_i32_154
  let v269 : Index := Scalar.indexCast v268
  let c1_155 : Index := 1#32
  let c12_156 : Index := 12#32
  ![v269.toNat, 1, 12]
def k0_off27 (i : grid0.Coords) (c0_i32_160 : BitVec 32) : Fin 3 → Nat :=
  let arg1 : BitVec 32 := BitVec.ofNat 32 (i 1).val
  let c2_i32_159 : BitVec 32 := 2#32
  let v278 : BitVec 32 := Scalar.muli arg1 c2_i32_159
  let v279 : BitVec 32 := Scalar.addi v278 c0_i32_160
  let v280 : Index := Scalar.indexCast v279
  let c0_161 : Index := 0#32
  let c13 : Index := 13#32
  ![v280.toNat, 0, 13]
def k0_off28 (i : grid0.Coords) (c0_i32_166 : BitVec 32) : Fin 3 → Nat :=
  let arg1 : BitVec 32 := BitVec.ofNat 32 (i 1).val
  let c2_i32_165 : BitVec 32 := 2#32
  let v288 : BitVec 32 := Scalar.muli arg1 c2_i32_165
  let v289 : BitVec 32 := Scalar.addi v288 c0_i32_166
  let v290 : Index := Scalar.indexCast v289
  let c1_167 : Index := 1#32
  let c13_168 : Index := 13#32
  ![v290.toNat, 1, 13]
def k0_off29 (i : grid0.Coords) (c0_i32_172 : BitVec 32) : Fin 3 → Nat :=
  let arg1 : BitVec 32 := BitVec.ofNat 32 (i 1).val
  let c2_i32_171 : BitVec 32 := 2#32
  let v299 : BitVec 32 := Scalar.muli arg1 c2_i32_171
  let v300 : BitVec 32 := Scalar.addi v299 c0_i32_172
  let v301 : Index := Scalar.indexCast v300
  let c0_173 : Index := 0#32
  let c14 : Index := 14#32
  ![v301.toNat, 0, 14]
def k0_off30 (i : grid0.Coords) (c0_i32_178 : BitVec 32) : Fin 3 → Nat :=
  let arg1 : BitVec 32 := BitVec.ofNat 32 (i 1).val
  let c2_i32_177 : BitVec 32 := 2#32
  let v309 : BitVec 32 := Scalar.muli arg1 c2_i32_177
  let v310 : BitVec 32 := Scalar.addi v309 c0_i32_178
  let v311 : Index := Scalar.indexCast v310
  let c1_179 : Index := 1#32
  let c14_180 : Index := 14#32
  ![v311.toNat, 1, 14]
def k0_off31 (i : grid0.Coords) (c0_i32_184 : BitVec 32) : Fin 3 → Nat :=
  let arg1 : BitVec 32 := BitVec.ofNat 32 (i 1).val
  let c2_i32_183 : BitVec 32 := 2#32
  let v320 : BitVec 32 := Scalar.muli arg1 c2_i32_183
  let v321 : BitVec 32 := Scalar.addi v320 c0_i32_184
  let v322 : Index := Scalar.indexCast v321
  let c0_185 : Index := 0#32
  let c15 : Index := 15#32
  ![v322.toNat, 0, 15]
def k0_off32 (i : grid0.Coords) (c0_i32_190 : BitVec 32) : Fin 3 → Nat :=
  let arg1 : BitVec 32 := BitVec.ofNat 32 (i 1).val
  let c2_i32_189 : BitVec 32 := 2#32
  let v330 : BitVec 32 := Scalar.muli arg1 c2_i32_189
  let v331 : BitVec 32 := Scalar.addi v330 c0_i32_190
  let v332 : Index := Scalar.indexCast v331
  let c1_191 : Index := 1#32
  let c15_192 : Index := 15#32
  ![v332.toNat, 1, 15]
def k0_off33 (i : grid0.Coords) (c0_i32_196 : BitVec 32) : Fin 3 → Nat :=
  let arg1 : BitVec 32 := BitVec.ofNat 32 (i 1).val
  let c2_i32_195 : BitVec 32 := 2#32
  let v341 : BitVec 32 := Scalar.muli arg1 c2_i32_195
  let v342 : BitVec 32 := Scalar.addi v341 c0_i32_196
  let v343 : Index := Scalar.indexCast v342
  let c0_197 : Index := 0#32
  let c16 : Index := 16#32
  ![v343.toNat, 0, 16]
def k0_off34 (i : grid0.Coords) (c0_i32_202 : BitVec 32) : Fin 3 → Nat :=
  let arg1 : BitVec 32 := BitVec.ofNat 32 (i 1).val
  let c2_i32_201 : BitVec 32 := 2#32
  let v351 : BitVec 32 := Scalar.muli arg1 c2_i32_201
  let v352 : BitVec 32 := Scalar.addi v351 c0_i32_202
  let v353 : Index := Scalar.indexCast v352
  let c1_203 : Index := 1#32
  let c16_204 : Index := 16#32
  ![v353.toNat, 1, 16]
def k0_off35 (i : grid0.Coords) (c0_i32_208 : BitVec 32) : Fin 3 → Nat :=
  let arg1 : BitVec 32 := BitVec.ofNat 32 (i 1).val
  let c2_i32_207 : BitVec 32 := 2#32
  let v362 : BitVec 32 := Scalar.muli arg1 c2_i32_207
  let v363 : BitVec 32 := Scalar.addi v362 c0_i32_208
  let v364 : Index := Scalar.indexCast v363
  let c0_209 : Index := 0#32
  let c17 : Index := 17#32
  ![v364.toNat, 0, 17]
def k0_off36 (i : grid0.Coords) (c0_i32_214 : BitVec 32) : Fin 3 → Nat :=
  let arg1 : BitVec 32 := BitVec.ofNat 32 (i 1).val
  let c2_i32_213 : BitVec 32 := 2#32
  let v372 : BitVec 32 := Scalar.muli arg1 c2_i32_213
  let v373 : BitVec 32 := Scalar.addi v372 c0_i32_214
  let v374 : Index := Scalar.indexCast v373
  let c1_215 : Index := 1#32
  let c17_216 : Index := 17#32
  ![v374.toNat, 1, 17]
def k0_off37 (i : grid0.Coords) (c0_i32_220 : BitVec 32) : Fin 3 → Nat :=
  let arg1 : BitVec 32 := BitVec.ofNat 32 (i 1).val
  let c2_i32_219 : BitVec 32 := 2#32
  let v383 : BitVec 32 := Scalar.muli arg1 c2_i32_219
  let v384 : BitVec 32 := Scalar.addi v383 c0_i32_220
  let v385 : Index := Scalar.indexCast v384
  let c0_221 : Index := 0#32
  let c18 : Index := 18#32
  ![v385.toNat, 0, 18]
def k0_off38 (i : grid0.Coords) (c0_i32_226 : BitVec 32) : Fin 3 → Nat :=
  let arg1 : BitVec 32 := BitVec.ofNat 32 (i 1).val
  let c2_i32_225 : BitVec 32 := 2#32
  let v393 : BitVec 32 := Scalar.muli arg1 c2_i32_225
  let v394 : BitVec 32 := Scalar.addi v393 c0_i32_226
  let v395 : Index := Scalar.indexCast v394
  let c1_227 : Index := 1#32
  let c18_228 : Index := 18#32
  ![v395.toNat, 1, 18]
def k0_off39 (i : grid0.Coords) (c0_i32_232 : BitVec 32) : Fin 3 → Nat :=
  let arg1 : BitVec 32 := BitVec.ofNat 32 (i 1).val
  let c2_i32_231 : BitVec 32 := 2#32
  let v404 : BitVec 32 := Scalar.muli arg1 c2_i32_231
  let v405 : BitVec 32 := Scalar.addi v404 c0_i32_232
  let v406 : Index := Scalar.indexCast v405
  let c0_233 : Index := 0#32
  let c19 : Index := 19#32
  ![v406.toNat, 0, 19]
def k0_off40 (i : grid0.Coords) (c0_i32_238 : BitVec 32) : Fin 3 → Nat :=
  let arg1 : BitVec 32 := BitVec.ofNat 32 (i 1).val
  let c2_i32_237 : BitVec 32 := 2#32
  let v414 : BitVec 32 := Scalar.muli arg1 c2_i32_237
  let v415 : BitVec 32 := Scalar.addi v414 c0_i32_238
  let v416 : Index := Scalar.indexCast v415
  let c1_239 : Index := 1#32
  let c19_240 : Index := 19#32
  ![v416.toNat, 1, 19]
def k0_off41 (i : grid0.Coords) (c0_i32_244 : BitVec 32) : Fin 3 → Nat :=
  let arg1 : BitVec 32 := BitVec.ofNat 32 (i 1).val
  let c2_i32_243 : BitVec 32 := 2#32
  let v425 : BitVec 32 := Scalar.muli arg1 c2_i32_243
  let v426 : BitVec 32 := Scalar.addi v425 c0_i32_244
  let v427 : Index := Scalar.indexCast v426
  let c0_245 : Index := 0#32
  let c20 : Index := 20#32
  ![v427.toNat, 0, 20]
def k0_off42 (i : grid0.Coords) (c0_i32_250 : BitVec 32) : Fin 3 → Nat :=
  let arg1 : BitVec 32 := BitVec.ofNat 32 (i 1).val
  let c2_i32_249 : BitVec 32 := 2#32
  let v435 : BitVec 32 := Scalar.muli arg1 c2_i32_249
  let v436 : BitVec 32 := Scalar.addi v435 c0_i32_250
  let v437 : Index := Scalar.indexCast v436
  let c1_251 : Index := 1#32
  let c20_252 : Index := 20#32
  ![v437.toNat, 1, 20]
def k0_off43 (i : grid0.Coords) (c0_i32_256 : BitVec 32) : Fin 3 → Nat :=
  let arg1 : BitVec 32 := BitVec.ofNat 32 (i 1).val
  let c2_i32_255 : BitVec 32 := 2#32
  let v446 : BitVec 32 := Scalar.muli arg1 c2_i32_255
  let v447 : BitVec 32 := Scalar.addi v446 c0_i32_256
  let v448 : Index := Scalar.indexCast v447
  let c0_257 : Index := 0#32
  let c21 : Index := 21#32
  ![v448.toNat, 0, 21]
def k0_off44 (i : grid0.Coords) (c0_i32_262 : BitVec 32) : Fin 3 → Nat :=
  let arg1 : BitVec 32 := BitVec.ofNat 32 (i 1).val
  let c2_i32_261 : BitVec 32 := 2#32
  let v456 : BitVec 32 := Scalar.muli arg1 c2_i32_261
  let v457 : BitVec 32 := Scalar.addi v456 c0_i32_262
  let v458 : Index := Scalar.indexCast v457
  let c1_263 : Index := 1#32
  let c21_264 : Index := 21#32
  ![v458.toNat, 1, 21]
def k0_off45 (i : grid0.Coords) (c0_i32_268 : BitVec 32) : Fin 3 → Nat :=
  let arg1 : BitVec 32 := BitVec.ofNat 32 (i 1).val
  let c2_i32_267 : BitVec 32 := 2#32
  let v467 : BitVec 32 := Scalar.muli arg1 c2_i32_267
  let v468 : BitVec 32 := Scalar.addi v467 c0_i32_268
  let v469 : Index := Scalar.indexCast v468
  let c0_269 : Index := 0#32
  let c22 : Index := 22#32
  ![v469.toNat, 0, 22]
def k0_off46 (i : grid0.Coords) (c0_i32_274 : BitVec 32) : Fin 3 → Nat :=
  let arg1 : BitVec 32 := BitVec.ofNat 32 (i 1).val
  let c2_i32_273 : BitVec 32 := 2#32
  let v477 : BitVec 32 := Scalar.muli arg1 c2_i32_273
  let v478 : BitVec 32 := Scalar.addi v477 c0_i32_274
  let v479 : Index := Scalar.indexCast v478
  let c1_275 : Index := 1#32
  let c22_276 : Index := 22#32
  ![v479.toNat, 1, 22]
def k0_off47 (i : grid0.Coords) (c0_i32_280 : BitVec 32) : Fin 3 → Nat :=
  let arg1 : BitVec 32 := BitVec.ofNat 32 (i 1).val
  let c2_i32_279 : BitVec 32 := 2#32
  let v488 : BitVec 32 := Scalar.muli arg1 c2_i32_279
  let v489 : BitVec 32 := Scalar.addi v488 c0_i32_280
  let v490 : Index := Scalar.indexCast v489
  let c0_281 : Index := 0#32
  let c23 : Index := 23#32
  ![v490.toNat, 0, 23]
def k0_off48 (i : grid0.Coords) (c0_i32_286 : BitVec 32) : Fin 3 → Nat :=
  let arg1 : BitVec 32 := BitVec.ofNat 32 (i 1).val
  let c2_i32_285 : BitVec 32 := 2#32
  let v498 : BitVec 32 := Scalar.muli arg1 c2_i32_285
  let v499 : BitVec 32 := Scalar.addi v498 c0_i32_286
  let v500 : Index := Scalar.indexCast v499
  let c1_287 : Index := 1#32
  let c23_288 : Index := 23#32
  ![v500.toNat, 1, 23]
def k0_off49 (i : grid0.Coords) (c0_i32_292 : BitVec 32) : Fin 3 → Nat :=
  let arg1 : BitVec 32 := BitVec.ofNat 32 (i 1).val
  let c2_i32_291 : BitVec 32 := 2#32
  let v509 : BitVec 32 := Scalar.muli arg1 c2_i32_291
  let v510 : BitVec 32 := Scalar.addi v509 c0_i32_292
  let v511 : Index := Scalar.indexCast v510
  let c0_293 : Index := 0#32
  let c24 : Index := 24#32
  ![v511.toNat, 0, 24]
def k0_off50 (i : grid0.Coords) (c0_i32_298 : BitVec 32) : Fin 3 → Nat :=
  let arg1 : BitVec 32 := BitVec.ofNat 32 (i 1).val
  let c2_i32_297 : BitVec 32 := 2#32
  let v519 : BitVec 32 := Scalar.muli arg1 c2_i32_297
  let v520 : BitVec 32 := Scalar.addi v519 c0_i32_298
  let v521 : Index := Scalar.indexCast v520
  let c1_299 : Index := 1#32
  let c24_300 : Index := 24#32
  ![v521.toNat, 1, 24]
def k0_off51 (i : grid0.Coords) (c0_i32_304 : BitVec 32) : Fin 3 → Nat :=
  let arg1 : BitVec 32 := BitVec.ofNat 32 (i 1).val
  let c2_i32_303 : BitVec 32 := 2#32
  let v530 : BitVec 32 := Scalar.muli arg1 c2_i32_303
  let v531 : BitVec 32 := Scalar.addi v530 c0_i32_304
  let v532 : Index := Scalar.indexCast v531
  let c0_305 : Index := 0#32
  let c25 : Index := 25#32
  ![v532.toNat, 0, 25]
def k0_off52 (i : grid0.Coords) (c0_i32_310 : BitVec 32) : Fin 3 → Nat :=
  let arg1 : BitVec 32 := BitVec.ofNat 32 (i 1).val
  let c2_i32_309 : BitVec 32 := 2#32
  let v540 : BitVec 32 := Scalar.muli arg1 c2_i32_309
  let v541 : BitVec 32 := Scalar.addi v540 c0_i32_310
  let v542 : Index := Scalar.indexCast v541
  let c1_311 : Index := 1#32
  let c25_312 : Index := 25#32
  ![v542.toNat, 1, 25]
def k0_off53 (i : grid0.Coords) (c0_i32_316 : BitVec 32) : Fin 3 → Nat :=
  let arg1 : BitVec 32 := BitVec.ofNat 32 (i 1).val
  let c2_i32_315 : BitVec 32 := 2#32
  let v551 : BitVec 32 := Scalar.muli arg1 c2_i32_315
  let v552 : BitVec 32 := Scalar.addi v551 c0_i32_316
  let v553 : Index := Scalar.indexCast v552
  let c0_317 : Index := 0#32
  let c26 : Index := 26#32
  ![v553.toNat, 0, 26]
def k0_off54 (i : grid0.Coords) (c0_i32_322 : BitVec 32) : Fin 3 → Nat :=
  let arg1 : BitVec 32 := BitVec.ofNat 32 (i 1).val
  let c2_i32_321 : BitVec 32 := 2#32
  let v561 : BitVec 32 := Scalar.muli arg1 c2_i32_321
  let v562 : BitVec 32 := Scalar.addi v561 c0_i32_322
  let v563 : Index := Scalar.indexCast v562
  let c1_323 : Index := 1#32
  let c26_324 : Index := 26#32
  ![v563.toNat, 1, 26]
def k0_off55 (i : grid0.Coords) (c0_i32_328 : BitVec 32) : Fin 3 → Nat :=
  let arg1 : BitVec 32 := BitVec.ofNat 32 (i 1).val
  let c2_i32_327 : BitVec 32 := 2#32
  let v572 : BitVec 32 := Scalar.muli arg1 c2_i32_327
  let v573 : BitVec 32 := Scalar.addi v572 c0_i32_328
  let v574 : Index := Scalar.indexCast v573
  let c0_329 : Index := 0#32
  let c27 : Index := 27#32
  ![v574.toNat, 0, 27]
def k0_off56 (i : grid0.Coords) (c0_i32_334 : BitVec 32) : Fin 3 → Nat :=
  let arg1 : BitVec 32 := BitVec.ofNat 32 (i 1).val
  let c2_i32_333 : BitVec 32 := 2#32
  let v582 : BitVec 32 := Scalar.muli arg1 c2_i32_333
  let v583 : BitVec 32 := Scalar.addi v582 c0_i32_334
  let v584 : Index := Scalar.indexCast v583
  let c1_335 : Index := 1#32
  let c27_336 : Index := 27#32
  ![v584.toNat, 1, 27]
def k0_off57 (i : grid0.Coords) (c0_i32_340 : BitVec 32) : Fin 3 → Nat :=
  let arg1 : BitVec 32 := BitVec.ofNat 32 (i 1).val
  let c2_i32_339 : BitVec 32 := 2#32
  let v593 : BitVec 32 := Scalar.muli arg1 c2_i32_339
  let v594 : BitVec 32 := Scalar.addi v593 c0_i32_340
  let v595 : Index := Scalar.indexCast v594
  let c0_341 : Index := 0#32
  let c28 : Index := 28#32
  ![v595.toNat, 0, 28]
def k0_off58 (i : grid0.Coords) (c0_i32_346 : BitVec 32) : Fin 3 → Nat :=
  let arg1 : BitVec 32 := BitVec.ofNat 32 (i 1).val
  let c2_i32_345 : BitVec 32 := 2#32
  let v603 : BitVec 32 := Scalar.muli arg1 c2_i32_345
  let v604 : BitVec 32 := Scalar.addi v603 c0_i32_346
  let v605 : Index := Scalar.indexCast v604
  let c1_347 : Index := 1#32
  let c28_348 : Index := 28#32
  ![v605.toNat, 1, 28]
def k0_off59 (i : grid0.Coords) (c0_i32_352 : BitVec 32) : Fin 3 → Nat :=
  let arg1 : BitVec 32 := BitVec.ofNat 32 (i 1).val
  let c2_i32_351 : BitVec 32 := 2#32
  let v614 : BitVec 32 := Scalar.muli arg1 c2_i32_351
  let v615 : BitVec 32 := Scalar.addi v614 c0_i32_352
  let v616 : Index := Scalar.indexCast v615
  let c0_353 : Index := 0#32
  let c29 : Index := 29#32
  ![v616.toNat, 0, 29]
def k0_off60 (i : grid0.Coords) (c0_i32_358 : BitVec 32) : Fin 3 → Nat :=
  let arg1 : BitVec 32 := BitVec.ofNat 32 (i 1).val
  let c2_i32_357 : BitVec 32 := 2#32
  let v624 : BitVec 32 := Scalar.muli arg1 c2_i32_357
  let v625 : BitVec 32 := Scalar.addi v624 c0_i32_358
  let v626 : Index := Scalar.indexCast v625
  let c1_359 : Index := 1#32
  let c29_360 : Index := 29#32
  ![v626.toNat, 1, 29]
def k0_off61 (i : grid0.Coords) (c0_i32_364 : BitVec 32) : Fin 3 → Nat :=
  let arg1 : BitVec 32 := BitVec.ofNat 32 (i 1).val
  let c2_i32_363 : BitVec 32 := 2#32
  let v635 : BitVec 32 := Scalar.muli arg1 c2_i32_363
  let v636 : BitVec 32 := Scalar.addi v635 c0_i32_364
  let v637 : Index := Scalar.indexCast v636
  let c0_365 : Index := 0#32
  let c30 : Index := 30#32
  ![v637.toNat, 0, 30]
def k0_off62 (i : grid0.Coords) (c0_i32_370 : BitVec 32) : Fin 3 → Nat :=
  let arg1 : BitVec 32 := BitVec.ofNat 32 (i 1).val
  let c2_i32_369 : BitVec 32 := 2#32
  let v645 : BitVec 32 := Scalar.muli arg1 c2_i32_369
  let v646 : BitVec 32 := Scalar.addi v645 c0_i32_370
  let v647 : Index := Scalar.indexCast v646
  let c1_371 : Index := 1#32
  let c30_372 : Index := 30#32
  ![v647.toNat, 1, 30]
def k0_off63 (i : grid0.Coords) (c0_i32_376 : BitVec 32) : Fin 3 → Nat :=
  let arg1 : BitVec 32 := BitVec.ofNat 32 (i 1).val
  let c2_i32_375 : BitVec 32 := 2#32
  let v656 : BitVec 32 := Scalar.muli arg1 c2_i32_375
  let v657 : BitVec 32 := Scalar.addi v656 c0_i32_376
  let v658 : Index := Scalar.indexCast v657
  let c0_377 : Index := 0#32
  let c31 : Index := 31#32
  ![v658.toNat, 0, 31]
def k0_off64 (i : grid0.Coords) (c0_i32_382 : BitVec 32) : Fin 3 → Nat :=
  let arg1 : BitVec 32 := BitVec.ofNat 32 (i 1).val
  let c2_i32_381 : BitVec 32 := 2#32
  let v666 : BitVec 32 := Scalar.muli arg1 c2_i32_381
  let v667 : BitVec 32 := Scalar.addi v666 c0_i32_382
  let v668 : Index := Scalar.indexCast v667
  let c1_383 : Index := 1#32
  let c31_384 : Index := 31#32
  ![v668.toNat, 1, 31]
def k0_off65 (i : grid0.Coords) (c0_i32_388 : BitVec 32) : Fin 3 → Nat :=
  let arg1 : BitVec 32 := BitVec.ofNat 32 (i 1).val
  let c2_i32_387 : BitVec 32 := 2#32
  let v677 : BitVec 32 := Scalar.muli arg1 c2_i32_387
  let v678 : BitVec 32 := Scalar.addi v677 c0_i32_388
  let v679 : Index := Scalar.indexCast v678
  let c0_389 : Index := 0#32
  let c32 : Index := 32#32
  ![v679.toNat, 0, 32]
def k0_off66 (i : grid0.Coords) (c0_i32_394 : BitVec 32) : Fin 3 → Nat :=
  let arg1 : BitVec 32 := BitVec.ofNat 32 (i 1).val
  let c2_i32_393 : BitVec 32 := 2#32
  let v687 : BitVec 32 := Scalar.muli arg1 c2_i32_393
  let v688 : BitVec 32 := Scalar.addi v687 c0_i32_394
  let v689 : Index := Scalar.indexCast v688
  let c1_395 : Index := 1#32
  let c32_396 : Index := 32#32
  ![v689.toNat, 1, 32]
def k0_off67 (i : grid0.Coords) (c0_i32_400 : BitVec 32) : Fin 3 → Nat :=
  let arg1 : BitVec 32 := BitVec.ofNat 32 (i 1).val
  let c2_i32_399 : BitVec 32 := 2#32
  let v698 : BitVec 32 := Scalar.muli arg1 c2_i32_399
  let v699 : BitVec 32 := Scalar.addi v698 c0_i32_400
  let v700 : Index := Scalar.indexCast v699
  let c0_401 : Index := 0#32
  let c33 : Index := 33#32
  ![v700.toNat, 0, 33]
def k0_off68 (i : grid0.Coords) (c0_i32_406 : BitVec 32) : Fin 3 → Nat :=
  let arg1 : BitVec 32 := BitVec.ofNat 32 (i 1).val
  let c2_i32_405 : BitVec 32 := 2#32
  let v708 : BitVec 32 := Scalar.muli arg1 c2_i32_405
  let v709 : BitVec 32 := Scalar.addi v708 c0_i32_406
  let v710 : Index := Scalar.indexCast v709
  let c1_407 : Index := 1#32
  let c33_408 : Index := 33#32
  ![v710.toNat, 1, 33]
def k0_off69 (i : grid0.Coords) (c0_i32_412 : BitVec 32) : Fin 3 → Nat :=
  let arg1 : BitVec 32 := BitVec.ofNat 32 (i 1).val
  let c2_i32_411 : BitVec 32 := 2#32
  let v719 : BitVec 32 := Scalar.muli arg1 c2_i32_411
  let v720 : BitVec 32 := Scalar.addi v719 c0_i32_412
  let v721 : Index := Scalar.indexCast v720
  let c0_413 : Index := 0#32
  let c34 : Index := 34#32
  ![v721.toNat, 0, 34]
def k0_off70 (i : grid0.Coords) (c0_i32_418 : BitVec 32) : Fin 3 → Nat :=
  let arg1 : BitVec 32 := BitVec.ofNat 32 (i 1).val
  let c2_i32_417 : BitVec 32 := 2#32
  let v729 : BitVec 32 := Scalar.muli arg1 c2_i32_417
  let v730 : BitVec 32 := Scalar.addi v729 c0_i32_418
  let v731 : Index := Scalar.indexCast v730
  let c1_419 : Index := 1#32
  let c34_420 : Index := 34#32
  ![v731.toNat, 1, 34]
def k0_off71 (i : grid0.Coords) (c0_i32_424 : BitVec 32) : Fin 3 → Nat :=
  let arg1 : BitVec 32 := BitVec.ofNat 32 (i 1).val
  let c2_i32_423 : BitVec 32 := 2#32
  let v740 : BitVec 32 := Scalar.muli arg1 c2_i32_423
  let v741 : BitVec 32 := Scalar.addi v740 c0_i32_424
  let v742 : Index := Scalar.indexCast v741
  let c0_425 : Index := 0#32
  let c35 : Index := 35#32
  ![v742.toNat, 0, 35]
def k0_off72 (i : grid0.Coords) (c0_i32_430 : BitVec 32) : Fin 3 → Nat :=
  let arg1 : BitVec 32 := BitVec.ofNat 32 (i 1).val
  let c2_i32_429 : BitVec 32 := 2#32
  let v750 : BitVec 32 := Scalar.muli arg1 c2_i32_429
  let v751 : BitVec 32 := Scalar.addi v750 c0_i32_430
  let v752 : Index := Scalar.indexCast v751
  let c1_431 : Index := 1#32
  let c35_432 : Index := 35#32
  ![v752.toNat, 1, 35]
def k0_off73 (i : grid0.Coords) (c0_i32_436 : BitVec 32) : Fin 3 → Nat :=
  let arg1 : BitVec 32 := BitVec.ofNat 32 (i 1).val
  let c2_i32_435 : BitVec 32 := 2#32
  let v761 : BitVec 32 := Scalar.muli arg1 c2_i32_435
  let v762 : BitVec 32 := Scalar.addi v761 c0_i32_436
  let v763 : Index := Scalar.indexCast v762
  let c0_437 : Index := 0#32
  let c36 : Index := 36#32
  ![v763.toNat, 0, 36]
def k0_off74 (i : grid0.Coords) (c0_i32_442 : BitVec 32) : Fin 3 → Nat :=
  let arg1 : BitVec 32 := BitVec.ofNat 32 (i 1).val
  let c2_i32_441 : BitVec 32 := 2#32
  let v771 : BitVec 32 := Scalar.muli arg1 c2_i32_441
  let v772 : BitVec 32 := Scalar.addi v771 c0_i32_442
  let v773 : Index := Scalar.indexCast v772
  let c1_443 : Index := 1#32
  let c36_444 : Index := 36#32
  ![v773.toNat, 1, 36]
def k0_off75 (i : grid0.Coords) (c0_i32_448 : BitVec 32) : Fin 3 → Nat :=
  let arg1 : BitVec 32 := BitVec.ofNat 32 (i 1).val
  let c2_i32_447 : BitVec 32 := 2#32
  let v782 : BitVec 32 := Scalar.muli arg1 c2_i32_447
  let v783 : BitVec 32 := Scalar.addi v782 c0_i32_448
  let v784 : Index := Scalar.indexCast v783
  let c0_449 : Index := 0#32
  let c37 : Index := 37#32
  ![v784.toNat, 0, 37]
def k0_off76 (i : grid0.Coords) (c0_i32_454 : BitVec 32) : Fin 3 → Nat :=
  let arg1 : BitVec 32 := BitVec.ofNat 32 (i 1).val
  let c2_i32_453 : BitVec 32 := 2#32
  let v792 : BitVec 32 := Scalar.muli arg1 c2_i32_453
  let v793 : BitVec 32 := Scalar.addi v792 c0_i32_454
  let v794 : Index := Scalar.indexCast v793
  let c1_455 : Index := 1#32
  let c37_456 : Index := 37#32
  ![v794.toNat, 1, 37]
def k0_off77 (i : grid0.Coords) (c0_i32_460 : BitVec 32) : Fin 3 → Nat :=
  let arg1 : BitVec 32 := BitVec.ofNat 32 (i 1).val
  let c2_i32_459 : BitVec 32 := 2#32
  let v803 : BitVec 32 := Scalar.muli arg1 c2_i32_459
  let v804 : BitVec 32 := Scalar.addi v803 c0_i32_460
  let v805 : Index := Scalar.indexCast v804
  let c0_461 : Index := 0#32
  let c38 : Index := 38#32
  ![v805.toNat, 0, 38]
def k0_off78 (i : grid0.Coords) (c0_i32_466 : BitVec 32) : Fin 3 → Nat :=
  let arg1 : BitVec 32 := BitVec.ofNat 32 (i 1).val
  let c2_i32_465 : BitVec 32 := 2#32
  let v813 : BitVec 32 := Scalar.muli arg1 c2_i32_465
  let v814 : BitVec 32 := Scalar.addi v813 c0_i32_466
  let v815 : Index := Scalar.indexCast v814
  let c1_467 : Index := 1#32
  let c38_468 : Index := 38#32
  ![v815.toNat, 1, 38]
def k0_off79 (i : grid0.Coords) (c0_i32_472 : BitVec 32) : Fin 3 → Nat :=
  let arg1 : BitVec 32 := BitVec.ofNat 32 (i 1).val
  let c2_i32_471 : BitVec 32 := 2#32
  let v824 : BitVec 32 := Scalar.muli arg1 c2_i32_471
  let v825 : BitVec 32 := Scalar.addi v824 c0_i32_472
  let v826 : Index := Scalar.indexCast v825
  let c0_473 : Index := 0#32
  let c39 : Index := 39#32
  ![v826.toNat, 0, 39]
def k0_off80 (i : grid0.Coords) (c0_i32_478 : BitVec 32) : Fin 3 → Nat :=
  let arg1 : BitVec 32 := BitVec.ofNat 32 (i 1).val
  let c2_i32_477 : BitVec 32 := 2#32
  let v834 : BitVec 32 := Scalar.muli arg1 c2_i32_477
  let v835 : BitVec 32 := Scalar.addi v834 c0_i32_478
  let v836 : Index := Scalar.indexCast v835
  let c1_479 : Index := 1#32
  let c39_480 : Index := 39#32
  ![v836.toNat, 1, 39]
def k0_off81 (i : grid0.Coords) (c0_i32_484 : BitVec 32) : Fin 3 → Nat :=
  let arg1 : BitVec 32 := BitVec.ofNat 32 (i 1).val
  let c2_i32_483 : BitVec 32 := 2#32
  let v845 : BitVec 32 := Scalar.muli arg1 c2_i32_483
  let v846 : BitVec 32 := Scalar.addi v845 c0_i32_484
  let v847 : Index := Scalar.indexCast v846
  let c0_485 : Index := 0#32
  let c40 : Index := 40#32
  ![v847.toNat, 0, 40]
def k0_off82 (i : grid0.Coords) (c0_i32_490 : BitVec 32) : Fin 3 → Nat :=
  let arg1 : BitVec 32 := BitVec.ofNat 32 (i 1).val
  let c2_i32_489 : BitVec 32 := 2#32
  let v855 : BitVec 32 := Scalar.muli arg1 c2_i32_489
  let v856 : BitVec 32 := Scalar.addi v855 c0_i32_490
  let v857 : Index := Scalar.indexCast v856
  let c1_491 : Index := 1#32
  let c40_492 : Index := 40#32
  ![v857.toNat, 1, 40]
def k0_off83 (i : grid0.Coords) (c0_i32_496 : BitVec 32) : Fin 3 → Nat :=
  let arg1 : BitVec 32 := BitVec.ofNat 32 (i 1).val
  let c2_i32_495 : BitVec 32 := 2#32
  let v866 : BitVec 32 := Scalar.muli arg1 c2_i32_495
  let v867 : BitVec 32 := Scalar.addi v866 c0_i32_496
  let v868 : Index := Scalar.indexCast v867
  let c0_497 : Index := 0#32
  let c41 : Index := 41#32
  ![v868.toNat, 0, 41]
def k0_off84 (i : grid0.Coords) (c0_i32_502 : BitVec 32) : Fin 3 → Nat :=
  let arg1 : BitVec 32 := BitVec.ofNat 32 (i 1).val
  let c2_i32_501 : BitVec 32 := 2#32
  let v876 : BitVec 32 := Scalar.muli arg1 c2_i32_501
  let v877 : BitVec 32 := Scalar.addi v876 c0_i32_502
  let v878 : Index := Scalar.indexCast v877
  let c1_503 : Index := 1#32
  let c41_504 : Index := 41#32
  ![v878.toNat, 1, 41]
def k0_off85 (i : grid0.Coords) (c0_i32_508 : BitVec 32) : Fin 3 → Nat :=
  let arg1 : BitVec 32 := BitVec.ofNat 32 (i 1).val
  let c2_i32_507 : BitVec 32 := 2#32
  let v887 : BitVec 32 := Scalar.muli arg1 c2_i32_507
  let v888 : BitVec 32 := Scalar.addi v887 c0_i32_508
  let v889 : Index := Scalar.indexCast v888
  let c0_509 : Index := 0#32
  let c42 : Index := 42#32
  ![v889.toNat, 0, 42]
def k0_off86 (i : grid0.Coords) (c0_i32_514 : BitVec 32) : Fin 3 → Nat :=
  let arg1 : BitVec 32 := BitVec.ofNat 32 (i 1).val
  let c2_i32_513 : BitVec 32 := 2#32
  let v897 : BitVec 32 := Scalar.muli arg1 c2_i32_513
  let v898 : BitVec 32 := Scalar.addi v897 c0_i32_514
  let v899 : Index := Scalar.indexCast v898
  let c1_515 : Index := 1#32
  let c42_516 : Index := 42#32
  ![v899.toNat, 1, 42]
def k0_off87 (i : grid0.Coords) (c0_i32_520 : BitVec 32) : Fin 3 → Nat :=
  let arg1 : BitVec 32 := BitVec.ofNat 32 (i 1).val
  let c2_i32_519 : BitVec 32 := 2#32
  let v908 : BitVec 32 := Scalar.muli arg1 c2_i32_519
  let v909 : BitVec 32 := Scalar.addi v908 c0_i32_520
  let v910 : Index := Scalar.indexCast v909
  let c0_521 : Index := 0#32
  let c43 : Index := 43#32
  ![v910.toNat, 0, 43]
def k0_off88 (i : grid0.Coords) (c0_i32_526 : BitVec 32) : Fin 3 → Nat :=
  let arg1 : BitVec 32 := BitVec.ofNat 32 (i 1).val
  let c2_i32_525 : BitVec 32 := 2#32
  let v918 : BitVec 32 := Scalar.muli arg1 c2_i32_525
  let v919 : BitVec 32 := Scalar.addi v918 c0_i32_526
  let v920 : Index := Scalar.indexCast v919
  let c1_527 : Index := 1#32
  let c43_528 : Index := 43#32
  ![v920.toNat, 1, 43]
def k0_off89 (i : grid0.Coords) (c0_i32_532 : BitVec 32) : Fin 3 → Nat :=
  let arg1 : BitVec 32 := BitVec.ofNat 32 (i 1).val
  let c2_i32_531 : BitVec 32 := 2#32
  let v929 : BitVec 32 := Scalar.muli arg1 c2_i32_531
  let v930 : BitVec 32 := Scalar.addi v929 c0_i32_532
  let v931 : Index := Scalar.indexCast v930
  let c0_533 : Index := 0#32
  let c44 : Index := 44#32
  ![v931.toNat, 0, 44]
def k0_off90 (i : grid0.Coords) (c0_i32_538 : BitVec 32) : Fin 3 → Nat :=
  let arg1 : BitVec 32 := BitVec.ofNat 32 (i 1).val
  let c2_i32_537 : BitVec 32 := 2#32
  let v939 : BitVec 32 := Scalar.muli arg1 c2_i32_537
  let v940 : BitVec 32 := Scalar.addi v939 c0_i32_538
  let v941 : Index := Scalar.indexCast v940
  let c1_539 : Index := 1#32
  let c44_540 : Index := 44#32
  ![v941.toNat, 1, 44]
def k0_off91 (i : grid0.Coords) (c0_i32_544 : BitVec 32) : Fin 3 → Nat :=
  let arg1 : BitVec 32 := BitVec.ofNat 32 (i 1).val
  let c2_i32_543 : BitVec 32 := 2#32
  let v950 : BitVec 32 := Scalar.muli arg1 c2_i32_543
  let v951 : BitVec 32 := Scalar.addi v950 c0_i32_544
  let v952 : Index := Scalar.indexCast v951
  let c0_545 : Index := 0#32
  let c45 : Index := 45#32
  ![v952.toNat, 0, 45]
def k0_off92 (i : grid0.Coords) (c0_i32_550 : BitVec 32) : Fin 3 → Nat :=
  let arg1 : BitVec 32 := BitVec.ofNat 32 (i 1).val
  let c2_i32_549 : BitVec 32 := 2#32
  let v960 : BitVec 32 := Scalar.muli arg1 c2_i32_549
  let v961 : BitVec 32 := Scalar.addi v960 c0_i32_550
  let v962 : Index := Scalar.indexCast v961
  let c1_551 : Index := 1#32
  let c45_552 : Index := 45#32
  ![v962.toNat, 1, 45]
def k0_off93 (i : grid0.Coords) (c0_i32_556 : BitVec 32) : Fin 3 → Nat :=
  let arg1 : BitVec 32 := BitVec.ofNat 32 (i 1).val
  let c2_i32_555 : BitVec 32 := 2#32
  let v971 : BitVec 32 := Scalar.muli arg1 c2_i32_555
  let v972 : BitVec 32 := Scalar.addi v971 c0_i32_556
  let v973 : Index := Scalar.indexCast v972
  let c0_557 : Index := 0#32
  let c46 : Index := 46#32
  ![v973.toNat, 0, 46]
def k0_off94 (i : grid0.Coords) (c0_i32_562 : BitVec 32) : Fin 3 → Nat :=
  let arg1 : BitVec 32 := BitVec.ofNat 32 (i 1).val
  let c2_i32_561 : BitVec 32 := 2#32
  let v981 : BitVec 32 := Scalar.muli arg1 c2_i32_561
  let v982 : BitVec 32 := Scalar.addi v981 c0_i32_562
  let v983 : Index := Scalar.indexCast v982
  let c1_563 : Index := 1#32
  let c46_564 : Index := 46#32
  ![v983.toNat, 1, 46]
def k0_off95 (i : grid0.Coords) (c0_i32_568 : BitVec 32) : Fin 3 → Nat :=
  let arg1 : BitVec 32 := BitVec.ofNat 32 (i 1).val
  let c2_i32_567 : BitVec 32 := 2#32
  let v992 : BitVec 32 := Scalar.muli arg1 c2_i32_567
  let v993 : BitVec 32 := Scalar.addi v992 c0_i32_568
  let v994 : Index := Scalar.indexCast v993
  let c0_569 : Index := 0#32
  let c47 : Index := 47#32
  ![v994.toNat, 0, 47]
def k0_off96 (i : grid0.Coords) (c0_i32_574 : BitVec 32) : Fin 3 → Nat :=
  let arg1 : BitVec 32 := BitVec.ofNat 32 (i 1).val
  let c2_i32_573 : BitVec 32 := 2#32
  let v1002 : BitVec 32 := Scalar.muli arg1 c2_i32_573
  let v1003 : BitVec 32 := Scalar.addi v1002 c0_i32_574
  let v1004 : Index := Scalar.indexCast v1003
  let c1_575 : Index := 1#32
  let c47_576 : Index := 47#32
  ![v1004.toNat, 1, 47]
def k0_off97 (i : grid0.Coords) (c0_i32_580 : BitVec 32) : Fin 3 → Nat :=
  let arg1 : BitVec 32 := BitVec.ofNat 32 (i 1).val
  let c2_i32_579 : BitVec 32 := 2#32
  let v1013 : BitVec 32 := Scalar.muli arg1 c2_i32_579
  let v1014 : BitVec 32 := Scalar.addi v1013 c0_i32_580
  let v1015 : Index := Scalar.indexCast v1014
  let c0_581 : Index := 0#32
  let c48 : Index := 48#32
  ![v1015.toNat, 0, 48]
def k0_off98 (i : grid0.Coords) (c0_i32_586 : BitVec 32) : Fin 3 → Nat :=
  let arg1 : BitVec 32 := BitVec.ofNat 32 (i 1).val
  let c2_i32_585 : BitVec 32 := 2#32
  let v1023 : BitVec 32 := Scalar.muli arg1 c2_i32_585
  let v1024 : BitVec 32 := Scalar.addi v1023 c0_i32_586
  let v1025 : Index := Scalar.indexCast v1024
  let c1_587 : Index := 1#32
  let c48_588 : Index := 48#32
  ![v1025.toNat, 1, 48]
def k0_off99 (i : grid0.Coords) (c0_i32_592 : BitVec 32) : Fin 3 → Nat :=
  let arg1 : BitVec 32 := BitVec.ofNat 32 (i 1).val
  let c2_i32_591 : BitVec 32 := 2#32
  let v1034 : BitVec 32 := Scalar.muli arg1 c2_i32_591
  let v1035 : BitVec 32 := Scalar.addi v1034 c0_i32_592
  let v1036 : Index := Scalar.indexCast v1035
  let c0_593 : Index := 0#32
  let c49 : Index := 49#32
  ![v1036.toNat, 0, 49]
def k0_off100 (i : grid0.Coords) (c0_i32_598 : BitVec 32) : Fin 3 → Nat :=
  let arg1 : BitVec 32 := BitVec.ofNat 32 (i 1).val
  let c2_i32_597 : BitVec 32 := 2#32
  let v1044 : BitVec 32 := Scalar.muli arg1 c2_i32_597
  let v1045 : BitVec 32 := Scalar.addi v1044 c0_i32_598
  let v1046 : Index := Scalar.indexCast v1045
  let c1_599 : Index := 1#32
  let c49_600 : Index := 49#32
  ![v1046.toNat, 1, 49]
def k0_off101 (i : grid0.Coords) (c0_i32_604 : BitVec 32) : Fin 3 → Nat :=
  let arg1 : BitVec 32 := BitVec.ofNat 32 (i 1).val
  let c2_i32_603 : BitVec 32 := 2#32
  let v1055 : BitVec 32 := Scalar.muli arg1 c2_i32_603
  let v1056 : BitVec 32 := Scalar.addi v1055 c0_i32_604
  let v1057 : Index := Scalar.indexCast v1056
  let c0_605 : Index := 0#32
  let c50 : Index := 50#32
  ![v1057.toNat, 0, 50]
def k0_off102 (i : grid0.Coords) (c0_i32_610 : BitVec 32) : Fin 3 → Nat :=
  let arg1 : BitVec 32 := BitVec.ofNat 32 (i 1).val
  let c2_i32_609 : BitVec 32 := 2#32
  let v1065 : BitVec 32 := Scalar.muli arg1 c2_i32_609
  let v1066 : BitVec 32 := Scalar.addi v1065 c0_i32_610
  let v1067 : Index := Scalar.indexCast v1066
  let c1_611 : Index := 1#32
  let c50_612 : Index := 50#32
  ![v1067.toNat, 1, 50]
def k0_off103 (i : grid0.Coords) (c0_i32_616 : BitVec 32) : Fin 3 → Nat :=
  let arg1 : BitVec 32 := BitVec.ofNat 32 (i 1).val
  let c2_i32_615 : BitVec 32 := 2#32
  let v1076 : BitVec 32 := Scalar.muli arg1 c2_i32_615
  let v1077 : BitVec 32 := Scalar.addi v1076 c0_i32_616
  let v1078 : Index := Scalar.indexCast v1077
  let c0_617 : Index := 0#32
  let c51 : Index := 51#32
  ![v1078.toNat, 0, 51]
def k0_off104 (i : grid0.Coords) (c0_i32_622 : BitVec 32) : Fin 3 → Nat :=
  let arg1 : BitVec 32 := BitVec.ofNat 32 (i 1).val
  let c2_i32_621 : BitVec 32 := 2#32
  let v1086 : BitVec 32 := Scalar.muli arg1 c2_i32_621
  let v1087 : BitVec 32 := Scalar.addi v1086 c0_i32_622
  let v1088 : Index := Scalar.indexCast v1087
  let c1_623 : Index := 1#32
  let c51_624 : Index := 51#32
  ![v1088.toNat, 1, 51]
def k0_off105 (i : grid0.Coords) (c0_i32_628 : BitVec 32) : Fin 3 → Nat :=
  let arg1 : BitVec 32 := BitVec.ofNat 32 (i 1).val
  let c2_i32_627 : BitVec 32 := 2#32
  let v1097 : BitVec 32 := Scalar.muli arg1 c2_i32_627
  let v1098 : BitVec 32 := Scalar.addi v1097 c0_i32_628
  let v1099 : Index := Scalar.indexCast v1098
  let c0_629 : Index := 0#32
  let c52 : Index := 52#32
  ![v1099.toNat, 0, 52]
def k0_off106 (i : grid0.Coords) (c0_i32_634 : BitVec 32) : Fin 3 → Nat :=
  let arg1 : BitVec 32 := BitVec.ofNat 32 (i 1).val
  let c2_i32_633 : BitVec 32 := 2#32
  let v1107 : BitVec 32 := Scalar.muli arg1 c2_i32_633
  let v1108 : BitVec 32 := Scalar.addi v1107 c0_i32_634
  let v1109 : Index := Scalar.indexCast v1108
  let c1_635 : Index := 1#32
  let c52_636 : Index := 52#32
  ![v1109.toNat, 1, 52]
def k0_off107 (i : grid0.Coords) (c0_i32_640 : BitVec 32) : Fin 3 → Nat :=
  let arg1 : BitVec 32 := BitVec.ofNat 32 (i 1).val
  let c2_i32_639 : BitVec 32 := 2#32
  let v1118 : BitVec 32 := Scalar.muli arg1 c2_i32_639
  let v1119 : BitVec 32 := Scalar.addi v1118 c0_i32_640
  let v1120 : Index := Scalar.indexCast v1119
  let c0_641 : Index := 0#32
  let c53 : Index := 53#32
  ![v1120.toNat, 0, 53]
def k0_off108 (i : grid0.Coords) (c0_i32_646 : BitVec 32) : Fin 3 → Nat :=
  let arg1 : BitVec 32 := BitVec.ofNat 32 (i 1).val
  let c2_i32_645 : BitVec 32 := 2#32
  let v1128 : BitVec 32 := Scalar.muli arg1 c2_i32_645
  let v1129 : BitVec 32 := Scalar.addi v1128 c0_i32_646
  let v1130 : Index := Scalar.indexCast v1129
  let c1_647 : Index := 1#32
  let c53_648 : Index := 53#32
  ![v1130.toNat, 1, 53]
def k0_off109 (i : grid0.Coords) (c0_i32_652 : BitVec 32) : Fin 3 → Nat :=
  let arg1 : BitVec 32 := BitVec.ofNat 32 (i 1).val
  let c2_i32_651 : BitVec 32 := 2#32
  let v1139 : BitVec 32 := Scalar.muli arg1 c2_i32_651
  let v1140 : BitVec 32 := Scalar.addi v1139 c0_i32_652
  let v1141 : Index := Scalar.indexCast v1140
  let c0_653 : Index := 0#32
  let c54 : Index := 54#32
  ![v1141.toNat, 0, 54]
def k0_off110 (i : grid0.Coords) (c0_i32_658 : BitVec 32) : Fin 3 → Nat :=
  let arg1 : BitVec 32 := BitVec.ofNat 32 (i 1).val
  let c2_i32_657 : BitVec 32 := 2#32
  let v1149 : BitVec 32 := Scalar.muli arg1 c2_i32_657
  let v1150 : BitVec 32 := Scalar.addi v1149 c0_i32_658
  let v1151 : Index := Scalar.indexCast v1150
  let c1_659 : Index := 1#32
  let c54_660 : Index := 54#32
  ![v1151.toNat, 1, 54]
def k0_off111 (i : grid0.Coords) (c0_i32_664 : BitVec 32) : Fin 3 → Nat :=
  let arg1 : BitVec 32 := BitVec.ofNat 32 (i 1).val
  let c2_i32_663 : BitVec 32 := 2#32
  let v1160 : BitVec 32 := Scalar.muli arg1 c2_i32_663
  let v1161 : BitVec 32 := Scalar.addi v1160 c0_i32_664
  let v1162 : Index := Scalar.indexCast v1161
  let c0_665 : Index := 0#32
  let c55 : Index := 55#32
  ![v1162.toNat, 0, 55]
def k0_off112 (i : grid0.Coords) (c0_i32_670 : BitVec 32) : Fin 3 → Nat :=
  let arg1 : BitVec 32 := BitVec.ofNat 32 (i 1).val
  let c2_i32_669 : BitVec 32 := 2#32
  let v1170 : BitVec 32 := Scalar.muli arg1 c2_i32_669
  let v1171 : BitVec 32 := Scalar.addi v1170 c0_i32_670
  let v1172 : Index := Scalar.indexCast v1171
  let c1_671 : Index := 1#32
  let c55_672 : Index := 55#32
  ![v1172.toNat, 1, 55]
def k0_off113 (i : grid0.Coords) (c0_i32_676 : BitVec 32) : Fin 3 → Nat :=
  let arg1 : BitVec 32 := BitVec.ofNat 32 (i 1).val
  let c2_i32_675 : BitVec 32 := 2#32
  let v1181 : BitVec 32 := Scalar.muli arg1 c2_i32_675
  let v1182 : BitVec 32 := Scalar.addi v1181 c0_i32_676
  let v1183 : Index := Scalar.indexCast v1182
  let c0_677 : Index := 0#32
  let c56 : Index := 56#32
  ![v1183.toNat, 0, 56]
def k0_off114 (i : grid0.Coords) (c0_i32_682 : BitVec 32) : Fin 3 → Nat :=
  let arg1 : BitVec 32 := BitVec.ofNat 32 (i 1).val
  let c2_i32_681 : BitVec 32 := 2#32
  let v1191 : BitVec 32 := Scalar.muli arg1 c2_i32_681
  let v1192 : BitVec 32 := Scalar.addi v1191 c0_i32_682
  let v1193 : Index := Scalar.indexCast v1192
  let c1_683 : Index := 1#32
  let c56_684 : Index := 56#32
  ![v1193.toNat, 1, 56]
def k0_off115 (i : grid0.Coords) (c0_i32_688 : BitVec 32) : Fin 3 → Nat :=
  let arg1 : BitVec 32 := BitVec.ofNat 32 (i 1).val
  let c2_i32_687 : BitVec 32 := 2#32
  let v1202 : BitVec 32 := Scalar.muli arg1 c2_i32_687
  let v1203 : BitVec 32 := Scalar.addi v1202 c0_i32_688
  let v1204 : Index := Scalar.indexCast v1203
  let c0_689 : Index := 0#32
  let c57 : Index := 57#32
  ![v1204.toNat, 0, 57]
def k0_off116 (i : grid0.Coords) (c0_i32_694 : BitVec 32) : Fin 3 → Nat :=
  let arg1 : BitVec 32 := BitVec.ofNat 32 (i 1).val
  let c2_i32_693 : BitVec 32 := 2#32
  let v1212 : BitVec 32 := Scalar.muli arg1 c2_i32_693
  let v1213 : BitVec 32 := Scalar.addi v1212 c0_i32_694
  let v1214 : Index := Scalar.indexCast v1213
  let c1_695 : Index := 1#32
  let c57_696 : Index := 57#32
  ![v1214.toNat, 1, 57]
def k0_off117 (i : grid0.Coords) (c0_i32_700 : BitVec 32) : Fin 3 → Nat :=
  let arg1 : BitVec 32 := BitVec.ofNat 32 (i 1).val
  let c2_i32_699 : BitVec 32 := 2#32
  let v1223 : BitVec 32 := Scalar.muli arg1 c2_i32_699
  let v1224 : BitVec 32 := Scalar.addi v1223 c0_i32_700
  let v1225 : Index := Scalar.indexCast v1224
  let c0_701 : Index := 0#32
  let c58 : Index := 58#32
  ![v1225.toNat, 0, 58]
def k0_off118 (i : grid0.Coords) (c0_i32_706 : BitVec 32) : Fin 3 → Nat :=
  let arg1 : BitVec 32 := BitVec.ofNat 32 (i 1).val
  let c2_i32_705 : BitVec 32 := 2#32
  let v1233 : BitVec 32 := Scalar.muli arg1 c2_i32_705
  let v1234 : BitVec 32 := Scalar.addi v1233 c0_i32_706
  let v1235 : Index := Scalar.indexCast v1234
  let c1_707 : Index := 1#32
  let c58_708 : Index := 58#32
  ![v1235.toNat, 1, 58]
def k0_off119 (i : grid0.Coords) (c0_i32_712 : BitVec 32) : Fin 3 → Nat :=
  let arg1 : BitVec 32 := BitVec.ofNat 32 (i 1).val
  let c2_i32_711 : BitVec 32 := 2#32
  let v1244 : BitVec 32 := Scalar.muli arg1 c2_i32_711
  let v1245 : BitVec 32 := Scalar.addi v1244 c0_i32_712
  let v1246 : Index := Scalar.indexCast v1245
  let c0_713 : Index := 0#32
  let c59 : Index := 59#32
  ![v1246.toNat, 0, 59]
def k0_off120 (i : grid0.Coords) (c0_i32_718 : BitVec 32) : Fin 3 → Nat :=
  let arg1 : BitVec 32 := BitVec.ofNat 32 (i 1).val
  let c2_i32_717 : BitVec 32 := 2#32
  let v1254 : BitVec 32 := Scalar.muli arg1 c2_i32_717
  let v1255 : BitVec 32 := Scalar.addi v1254 c0_i32_718
  let v1256 : Index := Scalar.indexCast v1255
  let c1_719 : Index := 1#32
  let c59_720 : Index := 59#32
  ![v1256.toNat, 1, 59]
def k0_off121 (i : grid0.Coords) (c0_i32_724 : BitVec 32) : Fin 3 → Nat :=
  let arg1 : BitVec 32 := BitVec.ofNat 32 (i 1).val
  let c2_i32_723 : BitVec 32 := 2#32
  let v1265 : BitVec 32 := Scalar.muli arg1 c2_i32_723
  let v1266 : BitVec 32 := Scalar.addi v1265 c0_i32_724
  let v1267 : Index := Scalar.indexCast v1266
  let c0_725 : Index := 0#32
  let c60 : Index := 60#32
  ![v1267.toNat, 0, 60]
def k0_off122 (i : grid0.Coords) (c0_i32_730 : BitVec 32) : Fin 3 → Nat :=
  let arg1 : BitVec 32 := BitVec.ofNat 32 (i 1).val
  let c2_i32_729 : BitVec 32 := 2#32
  let v1275 : BitVec 32 := Scalar.muli arg1 c2_i32_729
  let v1276 : BitVec 32 := Scalar.addi v1275 c0_i32_730
  let v1277 : Index := Scalar.indexCast v1276
  let c1_731 : Index := 1#32
  let c60_732 : Index := 60#32
  ![v1277.toNat, 1, 60]
def k0_off123 (i : grid0.Coords) (c0_i32_736 : BitVec 32) : Fin 3 → Nat :=
  let arg1 : BitVec 32 := BitVec.ofNat 32 (i 1).val
  let c2_i32_735 : BitVec 32 := 2#32
  let v1286 : BitVec 32 := Scalar.muli arg1 c2_i32_735
  let v1287 : BitVec 32 := Scalar.addi v1286 c0_i32_736
  let v1288 : Index := Scalar.indexCast v1287
  let c0_737 : Index := 0#32
  let c61 : Index := 61#32
  ![v1288.toNat, 0, 61]
def k0_off124 (i : grid0.Coords) (c0_i32_742 : BitVec 32) : Fin 3 → Nat :=
  let arg1 : BitVec 32 := BitVec.ofNat 32 (i 1).val
  let c2_i32_741 : BitVec 32 := 2#32
  let v1296 : BitVec 32 := Scalar.muli arg1 c2_i32_741
  let v1297 : BitVec 32 := Scalar.addi v1296 c0_i32_742
  let v1298 : Index := Scalar.indexCast v1297
  let c1_743 : Index := 1#32
  let c61_744 : Index := 61#32
  ![v1298.toNat, 1, 61]
def k0_off125 (i : grid0.Coords) (c0_i32_748 : BitVec 32) : Fin 3 → Nat :=
  let arg1 : BitVec 32 := BitVec.ofNat 32 (i 1).val
  let c2_i32_747 : BitVec 32 := 2#32
  let v1307 : BitVec 32 := Scalar.muli arg1 c2_i32_747
  let v1308 : BitVec 32 := Scalar.addi v1307 c0_i32_748
  let v1309 : Index := Scalar.indexCast v1308
  let c0_749 : Index := 0#32
  let c62 : Index := 62#32
  ![v1309.toNat, 0, 62]
def k0_off126 (i : grid0.Coords) (c0_i32_754 : BitVec 32) : Fin 3 → Nat :=
  let arg1 : BitVec 32 := BitVec.ofNat 32 (i 1).val
  let c2_i32_753 : BitVec 32 := 2#32
  let v1317 : BitVec 32 := Scalar.muli arg1 c2_i32_753
  let v1318 : BitVec 32 := Scalar.addi v1317 c0_i32_754
  let v1319 : Index := Scalar.indexCast v1318
  let c1_755 : Index := 1#32
  let c62_756 : Index := 62#32
  ![v1319.toNat, 1, 62]
def k0_off127 (i : grid0.Coords) (c0_i32_760 : BitVec 32) : Fin 3 → Nat :=
  let arg1 : BitVec 32 := BitVec.ofNat 32 (i 1).val
  let c2_i32_759 : BitVec 32 := 2#32
  let v1328 : BitVec 32 := Scalar.muli arg1 c2_i32_759
  let v1329 : BitVec 32 := Scalar.addi v1328 c0_i32_760
  let v1330 : Index := Scalar.indexCast v1329
  let c0_761 : Index := 0#32
  let c63 : Index := 63#32
  ![v1330.toNat, 0, 63]
def k0_off128 (i : grid0.Coords) (c0_i32_766 : BitVec 32) : Fin 3 → Nat :=
  let arg1 : BitVec 32 := BitVec.ofNat 32 (i 1).val
  let c2_i32_765 : BitVec 32 := 2#32
  let v1338 : BitVec 32 := Scalar.muli arg1 c2_i32_765
  let v1339 : BitVec 32 := Scalar.addi v1338 c0_i32_766
  let v1340 : Index := Scalar.indexCast v1339
  let c1_767 : Index := 1#32
  let c63_768 : Index := 63#32
  ![v1340.toNat, 1, 63]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S16x2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x6144x8192 : Shape := ⟨3, ![2, 6144, 8192]⟩
abbrev S16x8192x256 : Shape := ⟨3, ![16, 8192, 256]⟩
abbrev S16x64x2 : Shape := ⟨3, ![16, 64, 2]⟩
abbrev S16x64x1x2x1 : Shape := ⟨5, ![16, 64, 1, 2, 1]⟩
abbrev S16x64x128x2x128 : Shape := ⟨5, ![16, 64, 128, 2, 128]⟩
abbrev S12288x64x128 : Shape := ⟨3, ![12288, 64, 128]⟩
abbrev S8192x16x256 : Shape := ⟨3, ![8192, 16, 256]⟩
abbrev S8192x4096 : Shape := ⟨2, ![8192, 4096]⟩
abbrev S12288x4096 : Shape := ⟨2, ![12288, 4096]⟩
abbrev S12288x8192 : Shape := ⟨2, ![12288, 8192]⟩
abbrev S12288x64 : Shape := ⟨2, ![12288, 64]⟩
abbrev S12288x64x1 : Shape := ⟨3, ![12288, 64, 1]⟩

abbrev nBuf : Space → Nat
  | .hbm => 14
  | .vmem => 6
  | .smem => 0
  | _ => 0

abbrev bufTy : (tb : Table) → Fin (tcTables nBuf tb) → BufTy
  | .hbm, ⟨0, _⟩ => ⟨S2x6144x8192, .bf16⟩
  | .hbm, ⟨1, _⟩ => ⟨S16x8192x256, .fp8e4m3⟩
  | .hbm, ⟨2, _⟩ => ⟨S16x64x2, .f32⟩
  | .hbm, ⟨3, _⟩ => ⟨S16x64x1x2x1, .f32⟩
  | .hbm, ⟨4, _⟩ => ⟨S16x64x128x2x128, .f32⟩
  | .hbm, ⟨5, _⟩ => ⟨S16x8192x256, .f32⟩
  | .hbm, ⟨6, _⟩ => ⟨S12288x64x128, .bf16⟩
  | .hbm, ⟨7, _⟩ => ⟨S8192x16x256, .fp8e4m3⟩
  | .hbm, ⟨8, _⟩ => ⟨S8192x4096, .fp8e4m3⟩
  | .hbm, ⟨9, _⟩ => ⟨S8192x16x256, .f32⟩
  | .hbm, ⟨10, _⟩ => ⟨S8192x4096, .f32⟩
  | .hbm, ⟨11, _⟩ => ⟨S12288x4096, .bf16⟩
  | .hbm, ⟨12, _⟩ => ⟨S12288x8192, .fp8e4m3⟩
  | .hbm, ⟨13, _⟩ => ⟨S12288x64, .f32⟩
  | .local _ .vmem, ⟨0, _⟩ => ⟨S12288x64x128, .bf16⟩
  | .local _ .vmem, ⟨1, _⟩ => ⟨S8192x4096, .fp8e4m3⟩
  | .local _ .vmem, ⟨2, _⟩ => ⟨S8192x4096, .f32⟩
  | .local _ .vmem, ⟨3, _⟩ => ⟨S12288x4096, .bf16⟩
  | .local _ .vmem, ⟨4, _⟩ => ⟨S12288x8192, .fp8e4m3⟩
  | .local _ .vmem, ⟨5, _⟩ => ⟨S12288x64, .f32⟩
  | _, _ => ⟨S2x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x64x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.Runs.lean ====
/-
  The frame of the bit-level kernel, first part: the program up to its one region, each window's block at a point, and what
  the two runs of the kernel body share (when the body quantises, the staging and scratch buffers by name).
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 192 := Nat.lt_of_lt_of_eq t.isLt N_0
    have e0 : (grid0.coords t 0).val = t.val / 8 % 24 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16x2x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x8192 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.KernelFrame.RunA.lean ====
/-
  The frame of the bit-level kernel: the body run at a point that quantises (inner coordinate zero). Nothing is said of
  what it leaves in the outputs.
-/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8584000 in
/-- The body's triple IN CASE A (`scf.if` 0 taken: points 0, 8, … 184: 24 of 192): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S16x2x64 .f32) (harg2 : arg2.IsWhole) (arg3 : Memref sig .tc .vmem S512x8192 .bf16) (harg3 : arg3.IsWhole) (arg4 : Memref sig .tc .vmem S2x8192x256 .fp8e4m3) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (hc0 : cond0_0 i)
    (x0 : Vec F S16x2x64 .f32) (x1 : Vec F S512x8192 .bf16) (x2 : Vec F S2x8192x256 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_mla_up i arg2 harg2 arg3 harg3 arg4 harg4 arg5 harg5 arg6 harg6 arg7 harg7 arg8 harg8) K := by
    intro E K
    simp only [cc0_mla_up_eq_skeleton]; unfold cc0_mla_up_skel
    simp only [k0_part195_eq_skeleton, k0_part120_eq_skeleton, k0_part118_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part119_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Frame

end
-- ==== Proof.KernelFrame.RunB.lean ====
/-
  The frame of the bit-level kernel: the body run at a point that only multiplies (inner coordinate not zero). Nothing is
  said of what it leaves in the outputs.
-/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5784000 in
/-- The body's triple IN CASE B (`scf.if` 0 not taken: points 1, 2, … 191: 168 of 192): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S16x2x64 .f32) (harg2 : arg2.IsWhole) (arg3 : Memref sig .tc .vmem S512x8192 .bf16) (harg3 : arg3.IsWhole) (arg4 : Memref sig .tc .vmem S2x8192x256 .fp8e4m3) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (hc0 : ¬cond0_0 i)
    (x0 : Vec F S16x2x64 .f32) (x1 : Vec F S512x8192 .bf16) (x2 : Vec F S2x8192x256 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_mla_up i arg2 harg2 arg3 harg3 arg4 harg4 arg5 harg5 arg6 harg6 arg7 harg7 arg8 harg8) K := by
    intro E K
    simp only [cc0_mla_up_eq_skeleton]; unfold cc0_mla_up_skel
    simp only [k0_part195_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Frame

end
-- ==== Proof.KernelFrame.Frame.lean ====
/-
  The frame of the bit-level kernel: it terminates without fault, leaves its arguments unchanged and every semaphore
  counter at zero. The outputs' contents are forgotten here; what they are is proved over the extended reals.
-/
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 192 := lt_of_lt_of_eq t.isLt (show cfg0.N = 192 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: `Cert.quiescent_Kernel`'s statement at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Frame

end
-- ==== Proof.RunKit.lean ====
/-
  What the two runs of the kernel body share: when the body quantises (the grid's inner coordinate is zero), the
  staging buffers of a point by name, and the scratch buffer as the region hands it over.
-/
module

public import proofs.«01_k».proof.Proof.Gen.KernelIdeal.Skeleton
public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 192 := Nat.lt_of_lt_of_eq t.isLt N_0
    have e0 : (grid0.coords t 0).val = t.val / 8 % 24 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16x2x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x8192 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Value

end
-- ==== Proof.Tiles.lean ====
/-
  What the kernel body computes, as functions of the blocks it is given: one group of 128 columns quantised
  (`scaleVec`, `codesVec`, `xsVec`), one 128 × 128 tile of the weights times its scale (`wTile`), a row of two such
  tiles (`wRow`) and a head's whole weight (`wHead`). The body spells each of these out once per group, over many
  payload functions; here each is one function of the group.
-/
module

public import proofs.«01_k».proof.Proof.Gen.KernelIdeal.Skeleton
public import proofs.«01_k».proof.Proof.RunKit

@[expose] public section

noncomputable section

namespace Cert.KernelIdeal.Value

open Idealize.ShloMosaic Idealize.ShloMosaic.TcCoe
open Cert.KernelIdeal.Gen

variable {F : FTy → Type} [FloatOps F]

/-! ## One group of 128 columns -/

/-- One step of the search for the exponent of `y`: the bit `b` is put into the word `e` where the float with that
    word does not exceed `y`. -/
def grow (y : FVec F S512x1 .f32) (b : BitVec 32) (e : IVec S512x1 32) : IVec S512x1 32 :=
  select (cmpf .oge y (bitcastToFloat .f32 (ori e (broadcast S512x1 b)))) (ori e (broadcast S512x1 b)) e

/-- The largest magnitude of each row of a group, over 448. -/
def ratio (v : Vec F S512x128 .bf16) : FVec F S512x1 .f32 :=
  mulf (shapeCast S512x1 (multiReduction .maximumf [1] S512
      (absf (extf .f32 (shapeCast S512x128 v shapeCasts_S512x128_S512x128) bitsLt_bf16_f32)) 0xFF800000#32
      reduces_S512x128_S512 (.inl rfl) rfl) shapeCasts_S512_S512x1)
    (broadcast S512x1 (Scalar.ofBits .f32 0x3B124925#32))

/-- The exponent word of `y`: the eight exponent bits found from the highest down. -/
def expo (y : FVec F S512x1 .f32) : IVec S512x1 32 :=
  grow y 8388608#32 (grow y 16777216#32 (grow y 33554432#32 (grow y 67108864#32 (grow y 134217728#32
    (grow y 268435456#32 (grow y 536870912#32 (grow y 1073741824#32 (broadcast S512x1 0#32))))))))

/-- The word of the scale that goes with the exponent word `e`: one exponent more, or the word of 1 where the
    exponent is that of zero or of infinity. -/
def nextPow (e : IVec S512x1 32) : IVec S512x1 32 :=
  select (andi (cmpi .ne e (broadcast S512x1 0#32)) (cmpi .ne e (broadcast S512x1 2139095040#32)))
    (addi e (broadcast S512x1 8388608#32)) (broadcast S512x1 1065353216#32)

/-- The word of a group's scale. -/
def scaleWord (v : Vec F S512x128 .bf16) : IVec S512x1 32 := nextPow (expo (ratio v))

/-- A group's scale, row by row. -/
def scaleVec (v : Vec F S512x128 .bf16) : FVec F S512x1 .f32 := bitcastToFloat .f32 (scaleWord v)

/-- A group's codes: the group times the reciprocal scale, clipped to ±448 and cast. -/
def codesVec (v : Vec F S512x128 .bf16) : FVec F S512x128 .fp8e4m3 :=
  truncf .fp8e4m3 (minimumf (broadcast S512x128 (Scalar.ofBits .f32 0x43E00000#32))
    (maximumf (broadcast S512x128 (Scalar.ofBits .f32 0xC3E00000#32))
      (mulf (extf .f32 (shapeCast S512x128 v shapeCasts_S512x128_S512x128) bitsLt_bf16_f32)
        (broadcastTo S512x128 (bitcastToFloat .f32 (subi (broadcast S512x1 2130706432#32) (scaleWord v)))
          broadcasts_S512x1_S512x128)))) bitsLt_fp8e4m3_f32

/-- A group read back: its codes times its scale. -/
def xsVec (v : Vec F S512x128 .bf16) : FVec F S512x128 .bf16 :=
  shapeCast S512x128 (mulf (extf .bf16 (codesVec v) bitsLt_fp8e4m3_bf16)
    (broadcastTo S512x128 (truncf .bf16 (scaleVec v) bitsLt_bf16_f32) broadcasts_S512x1_S512x128))
    shapeCasts_S512x128_S512x128

/-- The scales so far, with column `g` set to the scale `s`. -/
def scStep (g : BitVec 32) (s : FVec F S512x1 .f32) (sc : FVec F S512x64 .f32) : FVec F S512x64 .f32 :=
  select (cmpi .eq (iota .tc S512x64 32 [1] iota_S512x64_d1_w32) (broadcast S512x64 g))
    (broadcastTo S512x64 (shapeCast S512x1 s shapeCasts_S512x1_S512x1) broadcasts_S512x1_S512x64) sc

/-! ## The stores of the 64 groups -/

theorem inb_group (g : ℕ) (h : g < 64) : ∀ a, (![0, 128 * g] : Fin 2 → ℕ) a + S512x128.size a ≤ S512x8192.size a := by
  intro a
  match a with
  | ⟨0, _⟩ => show 0 + 512 ≤ 512; omega
  | ⟨1, _⟩ => show 128 * g + 128 ≤ 8192; omega

/-- The rectangle of group `g`. -/
abbrev groupRect (g : ℕ) (h : g < 64) : Rect S512x8192 := Rect.unit ![0, 128 * g] S512x128.size (inb_group g h)

/-- The first `n` groups stored one after another, the last first: `f` of group `g` of the block goes to the
    rectangle of that group. -/
def pieces {e : EltTy} (f : (g : ℕ) → g < 64 → (S512x128.Idx → Elt F e)) : (n : ℕ) → n ≤ 64 → List (View.Piece (Elt F) S512x8192 e)
  | 0, _ => []
  | n + 1, h => ⟨groupRect n h, f n h⟩ :: pieces f n (Nat.le_of_succ_le h)

/-- The scales of the first `n` groups, the other columns zero. -/
def scales (s : (g : ℕ) → g < 64 → FVec F S512x1 .f32) : (n : ℕ) → n ≤ 64 → FVec F S512x64 .f32
  | 0, _ => broadcast S512x64 (Scalar.ofBits .f32 0x00000000#32)
  | n + 1, h => scStep (BitVec.ofNat 32 n) (s n h) (scales s n (Nat.le_of_succ_le h))

/-! ## The weights -/

/-- One tile of the weights times its scale. -/
def wTile (t : Vec F S1x128x128 .fp8e4m3) (sv : Elt F .f32) : FVec F S128x128 .bf16 :=
  mulf (extf .bf16 (shapeCast S128x128 t shapeCasts_S1x128x128_S128x128) bitsLt_fp8e4m3_bf16)
    (truncf .bf16 (broadcast S128x128 sv) bitsLt_bf16_f32)

/-- Two tiles side by side. -/
def wRow (t₀ : Vec F S1x128x128 .fp8e4m3) (s₀ : Elt F .f32) (t₁ : Vec F S1x128x128 .fp8e4m3) (s₁ : Elt F .f32) : FVec F S128x256 .bf16 :=
  concatenate S128x256 1 [⟨S128x128, wTile t₀ s₀⟩, ⟨S128x128, wTile t₁ s₁⟩] concatenates_S128x128_S128x128_S128x256_d1

/-- 64 rows of tiles of one shape stack to a head's weight. -/
theorem rows_stack (r : Fin 64 → FVec F S128x256 .bf16) :
    Shape.Concatenates ((List.ofFn fun k : Fin 64 => (⟨S128x256, r k⟩ : (s : Shape) × (s.Idx → Elt F .bf16))).map (·.1)) S8192x256 0 := by
  have e : (List.ofFn fun k : Fin 64 => (⟨S128x256, r k⟩ : (s : Shape) × (s.Idx → Elt F .bf16))).map (·.1)
      = List.replicate 64 S128x256 := by rw [List.map_ofFn]; rfl
  rw [e]; decide

/-- A head's weight: 64 rows of two tiles, one above the other. -/
def wHead (t : Fin 64 → Fin 2 → Vec F S1x128x128 .fp8e4m3) (s : Fin 64 → Fin 2 → Elt F .f32) : FVec F S8192x256 .bf16 :=
  concatenate S8192x256 0 (List.ofFn fun k : Fin 64 => ⟨S128x256, wRow (t k 0) (s k 0) (t k 1) (s k 1)⟩) (rows_stack _)

/-- A head's result: the read-back block times the head's weight, cast. -/
def outHead (xs : Vec F S512x8192 .bf16) (w : FVec F S8192x256 .bf16) : FVec F S512x256 .bf16 :=
  truncf .bf16 (matmul dot_S512x8192_S8192x256_S512x256_1_0_0_1_n_n none xs w (constant S512x256 .f32 0x00000000#32)) bitsLt_bf16_f32

theorem inb_tile (h : Fin 2) (k : Fin 64) (c : Fin 2) :
    ∀ a, (![h.val, 128 * k.val, 128 * c.val] : Fin 3 → ℕ) a + S1x128x128.size a ≤ S2x8192x256.size a := by
  intro a
  have := h.isLt; have := k.isLt; have := c.isLt
  match a with
  | ⟨0, _⟩ => show h.val + 1 ≤ 2; omega
  | ⟨1, _⟩ => show 128 * k.val + 128 ≤ 8192; omega
  | ⟨2, _⟩ => show 128 * c.val + 128 ≤ 256; omega

/-- The rectangle of tile `(k, c)` of head `h` of a block of weights. -/
abbrev tileRect (h : Fin 2) (k : Fin 64) (c : Fin 2) : Rect S2x8192x256 :=
  Rect.unit ![h.val, 128 * k.val, 128 * c.val] S1x128x128.size (inb_tile h k c)

/-- Where the scale of tile `(k, c)` of the head `h` of the point lies. -/
def scaleOff (i : grid0.Coords) (h : Fin 2) (k : Fin 64) (c : Fin 2) : Fin 3 → ℕ :=
  ![(Scalar.addi (Scalar.muli (BitVec.ofNat 32 (i 1).val) 2#32) (BitVec.ofNat 32 h.val)).toNat, c.val, k.val]

theorem scaleOff_eq (i : grid0.Coords) (h : Fin 2) (k : Fin 64) (c : Fin 2) :
    scaleOff i h k c = ![2 * (i 1).val + h.val, c.val, k.val] := by
  have e := congrFun (k0_off1_eq i h) 0
  unfold scaleOff
  congr 1

theorem inb_scale (i : grid0.Coords) (h : Fin 2) (k : Fin 64) (c : Fin 2) :
    ∀ a, scaleOff i h k c a + S1x1x1.size a ≤ S16x2x64.size a := by
  rw [scaleOff_eq]
  intro a
  have hi : (i 1).val < 8 := (i 1).isLt
  have := h.isLt; have := k.isLt; have := c.isLt
  match a with
  | ⟨0, _⟩ => show 2 * (i 1).val + h.val + 1 ≤ 16; omega
  | ⟨1, _⟩ => show c.val + 1 ≤ 2; omega
  | ⟨2, _⟩ => show k.val + 1 ≤ 64; omega

/-- The rectangle of that one scale. -/
abbrev scaleRect (i : grid0.Coords) (h : Fin 2) (k : Fin 64) (c : Fin 2) : Rect S16x2x64 :=
  Rect.unit (scaleOff i h k c) S1x1x1.size (inb_scale i h k c)

theorem one_pos : 0 < S1x1x1.numel := by rw [numel1_S1x1x1]; exact Nat.one_pos

/-! ## The loads, as the body makes them -/

/-- Group `g` of a block of activations, loaded through the staging buffer held at `x`. -/
abbrev groupLd (arg3 : Memref sig .tc .vmem S512x8192 .bf16) (harg3 : arg3.IsWhole) (x : Vec F S512x8192 .bf16) (g : ℕ) (h : g < 64) :
    Vec F S512x128 .bf16 :=
  View.readAt (Elt F) arg3.view (groupRect g h).toLoadRect (harg3.unread x)

/-- Tile `(k, c)` of head `h`, loaded through the staging buffer held at `w`. -/
abbrev tileLd (arg4 : Memref sig .tc .vmem S2x8192x256 .fp8e4m3) (harg4 : arg4.IsWhole) (w : Vec F S2x8192x256 .fp8e4m3)
    (h : Fin 2) (k : Fin 64) (c : Fin 2) : Vec F S1x128x128 .fp8e4m3 :=
  View.readAt (Elt F) arg4.view (tileRect h k c).toLoadRect (harg4.unread w)

/-- The scale of tile `(k, c)` of head `h`, loaded through the buffer held at `ws`. -/
abbrev scaleLd (arg2 : Memref sig .tc .smem S16x2x64 .f32) (harg2 : arg2.IsWhole) (ws : Vec F S16x2x64 .f32) (i : grid0.Coords)
    (h : Fin 2) (k : Fin 64) (c : Fin 2) : Elt F .f32 :=
  View.readAt (Elt F) arg2.view (scaleRect i h k c).toLoadRect (harg2.unread ws) (Shape.Idx.first (s := S1x1x1) one_pos)

end Cert.KernelIdeal.Value

end
-- ==== Proof.Blocks.lean ====
/-
  What one run of the kernel body leaves in its buffers, each as one function of the block it was given: the codes
  (`codesB`), the scales (`scB`), the block read back (`xsB`) and the product (`outB`); and that the body's stores, as it
  makes them, leave exactly these.
-/
module

public import proofs.«01_k».proof.Proof.Tiles
public import Idealize.ShloMosaic.Lib.WholeRead
public import Idealize.ShloMosaic.Lib.ValueIdx
public import Idealize.ShloMosaic.Lib.WritesUnit

@[expose] public section

noncomputable section

namespace Cert.KernelIdeal.Value

open Idealize.ShloMosaic Idealize.ShloMosaic.TcCoe
open Cert.KernelIdeal.Gen
open Idealize.ShloMosaic.ValueIdx (ix2)

variable {F : FTy → Type} [FloatOps F]

/-! ## The stores of the 64 groups, read back -/

theorem col_lt (y : S512x8192.Idx) : (y 1).val / 128 < 64 := by
  have : (y 1).val < 8192 := (y 1).isLt
  omega

/-- A column inside its group. -/
def inGroup (y : S512x8192.Idx) : S512x128.Idx :=
  ix2 (n0 := 512) (n1 := 128) (y 0) ⟨(y 1).val % 128, Nat.mod_lt _ (by decide)⟩

/-- The block whose group `g` is `f g`. -/
def gather {e : EltTy} (f : (g : ℕ) → g < 64 → (S512x128.Idx → Elt F e)) : S512x8192.Idx → Elt F e :=
  fun y => f ((y 1).val / 128) (col_lt y) (inGroup y)

theorem gather_emb {e : EltTy} (f : (g : ℕ) → g < 64 → (S512x128.Idx → Elt F e)) (g : ℕ) (h : g < 64) (z : (groupRect g h).shape.Idx) :
    f g h z = gather f ((groupRect g h).emb z) := by
  have h1 : (((groupRect g h).emb z) 1).val = 128 * g + 1 * (z 1).val := rfl
  have h0 : (((groupRect g h).emb z) 0).val = 0 + 1 * (z 0).val := rfl
  have hz : (z 1).val < 128 := (z 1).isLt
  have hg : (((groupRect g h).emb z) 1).val / 128 = g := by omega
  have hi : inGroup ((groupRect g h).emb z) = z := by
    funext a
    match a with
    | ⟨0, _⟩ => exact Fin.ext (by show (((groupRect g h).emb z) 0).val = _; rw [h0]; show 0 + 1 * (z 0).val = (z 0).val; omega)
    | ⟨1, _⟩ => exact Fin.ext (by show (((groupRect g h).emb z) 1).val % 128 = (z 1).val; omega)
  unfold gather
  rw [hi]
  congr 1
  · simp only [hg]

theorem pieces_of_mem {e : EltTy} (f : (g : ℕ) → g < 64 → (S512x128.Idx → Elt F e)) :
    ∀ (n : ℕ) (hn : n ≤ 64), ∀ p ∈ pieces f n hn, ∃ (g : ℕ) (h : g < 64), p = ⟨groupRect g h, f g h⟩
  | 0, _, p, hp => absurd hp List.not_mem_nil
  | n + 1, hn, p, hp => by
    rcases List.mem_cons.mp hp with rfl | hp
    · exact ⟨n, hn, rfl⟩
    · exact pieces_of_mem f n _ p hp

theorem mem_pieces {e : EltTy} (f : (g : ℕ) → g < 64 → (S512x128.Idx → Elt F e)) (g : ℕ) (h : g < 64) :
    ∀ (n : ℕ) (hn : n ≤ 64), g < n → (⟨groupRect g h, f g h⟩ : View.Piece (Elt F) S512x8192 e) ∈ pieces f n hn
  | 0, _, hg => absurd hg (Nat.not_lt_zero _)
  | n + 1, hn, hg => by
    rcases Nat.lt_succ_iff_lt_or_eq.mp hg with hg | rfl
    · exact List.mem_cons_of_mem _ (mem_pieces f g h n _ hg)
    · exact List.mem_cons_self

theorem pieces_cover {e : EltTy} (f : (g : ℕ) → g < 64 → (S512x128.Idx → Elt F e)) (y : S512x8192.Idx) :
    ∃ p ∈ pieces f 64 le_rfl, y ∈ p.1.set := by
  refine ⟨_, mem_pieces f ((y 1).val / 128) (col_lt y) 64 le_rfl (col_lt y), ?_⟩
  rw [Rect.mem_set_unit]
  intro a
  match a with
  | ⟨0, _⟩ => exact ⟨Nat.zero_le _, by show (y 0).val < 0 + 512; have : (y 0).val < 512 := (y 0).isLt; omega⟩
  | ⟨1, _⟩ =>
    have := Nat.div_add_mod (y 1).val 128
    have := Nat.mod_lt (y 1).val (show 128 > 0 by decide)
    exact ⟨by show 128 * ((y 1).val / 128) ≤ (y 1).val; omega, by show (y 1).val < 128 * ((y 1).val / 128) + 128; omega⟩

/-- After the 64 groups have been stored, a buffer holds the block made of them, whatever it held before. -/
theorem read_pieces {κ : Kind} {sp : Space} {e : EltTy} (v : View sig κ sp S512x8192 e) (f₀ : v.ty.Contents (Elt F))
    (f : (g : ℕ) → g < 64 → (S512x128.Idx → Elt F e)) :
    v.read (Elt F) (v.writes (Elt F) f₀ (pieces f 64 le_rfl)) = gather f := by
  funext y
  refine View.read_writes_apply_of_pieces v f₀ (gather f) _ (fun p hp z => ?_) y (pieces_cover f y)
  obtain ⟨g, h, rfl⟩ := pieces_of_mem f 64 le_rfl p hp
  exact gather_emb f g h z

/-- A whole block. -/
abbrev wholeRect : Rect S512x8192 := Rect.unit ![0, 0] ![512, 8192] inb_S512x8192_S512x8192_0_0

theorem wholeRect_idx (z : wholeRect.shape.Idx) : wholeRect.toLoadRect.idx z = z := by
  funext a
  match a with
  | ⟨0, _⟩ => exact Fin.ext (by show 0 + 1 * (z 0).val = (z 0).val; omega)
  | ⟨1, _⟩ => exact Fin.ext (by show 0 + 1 * (z 1).val = (z 1).val; omega)

/-- Loading the whole block after the 64 stores gives the block made of them. -/
theorem readCov_pieces {κ : Kind} {sp : Space} {e : EltTy} (v : View sig κ sp S512x8192 e)
    (f : (g : ℕ) → g < 64 → (S512x128.Idx → Elt F e)) :
    v.readCov (pieces f 64 le_rfl) wholeRect.toLoadRect = gather f := by
  unfold View.readCov
  rw [View.readAt_eq_ld, read_pieces]
  funext z
  exact congrArg (gather f) (wholeRect_idx z)

/-! ## The block functions -/

/-- Group `g` of a block of activations. -/
abbrev groupOf (x : Vec F S512x8192 .bf16) (g : ℕ) (h : g < 64) : Vec F S512x128 .bf16 := View.ld x (groupRect g h)

theorem groupLd_eq (arg3 : Memref sig .tc .vmem S512x8192 .bf16) (harg3 : arg3.IsWhole) (x : Vec F S512x8192 .bf16) (g : ℕ) (h : g < 64) :
    groupLd arg3 harg3 x g h = groupOf x g h := by
  funext z; exact harg3.readAt_unread x (groupRect g h).toLoadRect z

/-- The codes of a block. -/
def codesB (x : Vec F S512x8192 .bf16) : Vec F S512x8192 .fp8e4m3 := gather fun g h => codesVec (groupOf x g h)
/-- A block read back from its codes and scales. -/
def xsB (x : Vec F S512x8192 .bf16) : Vec F S512x8192 .bf16 := gather fun g h => xsVec (groupOf x g h)
/-- The scales of a block. -/
def scB (x : Vec F S512x8192 .bf16) : Vec F S512x64 .f32 := scales (fun g h => scaleVec (groupOf x g h)) 64 le_rfl

/-- Tile `(k, c)` of head `h` of a block of weights. -/
abbrev tileOf (w : Vec F S2x8192x256 .fp8e4m3) (h : Fin 2) (k : Fin 64) (c : Fin 2) : Vec F S1x128x128 .fp8e4m3 := View.ld w (tileRect h k c)
/-- The scale of that tile, at point `i`. -/
abbrev scaleOf (ws : Vec F S16x2x64 .f32) (i : grid0.Coords) (h : Fin 2) (k : Fin 64) (c : Fin 2) : Elt F .f32 :=
  View.ld ws (scaleRect i h k c) (Shape.Idx.first (s := S1x1x1) one_pos)

/-- Head `h` of the point's block of weights, read back. -/
def wB (ws : Vec F S16x2x64 .f32) (w : Vec F S2x8192x256 .fp8e4m3) (i : grid0.Coords) (h : Fin 2) : FVec F S8192x256 .bf16 :=
  wHead (tileOf w h) (scaleOf ws i h)

theorem wB_ld (arg2 : Memref sig .tc .smem S16x2x64 .f32) (harg2 : arg2.IsWhole) (arg4 : Memref sig .tc .vmem S2x8192x256 .fp8e4m3)
    (harg4 : arg4.IsWhole) (ws : Vec F S16x2x64 .f32) (w : Vec F S2x8192x256 .fp8e4m3) (i : grid0.Coords) (h : Fin 2) :
    wHead (tileLd arg4 harg4 w h) (scaleLd arg2 harg2 ws i h) = wB ws w i h := by
  unfold wB
  congr 1
  · funext k c z; exact harg4.readAt_unread w (tileRect h k c).toLoadRect z
  · funext k c; exact harg2.readAt_unread ws (scaleRect i h k c).toLoadRect (Shape.Idx.first (s := S1x1x1) one_pos)

/-- Two heads side by side: columns 0 … 255 from head 0, columns 256 … 511 from head 1. -/
def twoHeads {e : EltTy} (f : Fin 2 → (S512x256.Idx → Elt F e)) : S512x512.Idx → Elt F e :=
  fun y => f ⟨(y 1).val / 256, by have : (y 1).val < 512 := (y 1).isLt; omega⟩
    (ix2 (n0 := 512) (n1 := 256) (y 0) ⟨(y 1).val % 256, Nat.mod_lt _ (by decide)⟩)

/-- The point's block of the product. -/
def outB (xs : Vec F S512x8192 .bf16) (ws : Vec F S16x2x64 .f32) (w : Vec F S2x8192x256 .fp8e4m3) (i : grid0.Coords) : Vec F S512x512 .bf16 :=
  twoHeads fun h => outHead xs (wB ws w i h)

theorem twoHeads_emb {e : EltTy} (f : Fin 2 → (S512x256.Idx → Elt F e)) (h : Fin 2) (o : ℕ) (ho : o = 256 * h.val)
    (inb : ∀ a, (![0, o] : Fin 2 → ℕ) a + S512x256.size a ≤ S512x512.size a)
    (z : (Rect.unit (s := S512x512) ![0, o] S512x256.size inb).shape.Idx) :
    f h z = twoHeads f ((Rect.unit (s := S512x512) ![0, o] S512x256.size inb).emb z) := by
  subst ho
  have h1 : (((Rect.unit (s := S512x512) ![0, 256 * h.val] S512x256.size inb).emb z) 1).val = 256 * h.val + 1 * (z 1).val := rfl
  have h0 : (((Rect.unit (s := S512x512) ![0, 256 * h.val] S512x256.size inb).emb z) 0).val = 0 + 1 * (z 0).val := rfl
  have hz : (z 1).val < 256 := (z 1).isLt
  unfold twoHeads
  congr 1
  · congr 1
    exact Fin.ext (by show h.val = (((Rect.unit (s := S512x512) ![0, 256 * h.val] S512x256.size inb).emb z) 1).val / 256; omega)
  · funext a
    match a with
    | ⟨0, _⟩ => exact Fin.ext (by show (z 0).val = (((Rect.unit (s := S512x512) ![0, 256 * h.val] S512x256.size inb).emb z) 0).val; omega)
    | ⟨1, _⟩ => exact Fin.ext (by show (z 1).val = (((Rect.unit (s := S512x512) ![0, 256 * h.val] S512x256.size inb).emb z) 1).val % 256; omega)

/-- The stores of the two heads leave both, side by side. -/
theorem read_heads {κ : Kind} {sp : Space} {e : EltTy} (v : View sig κ sp S512x512 e) (f₀ : v.ty.Contents (Elt F))
    (f : Fin 2 → (S512x256.Idx → Elt F e)) :
    v.read (Elt F) (v.writes (Elt F) f₀
      [⟨Rect.unit ![0, 256] ![512, 256] inb_S512x512_S512x256_0_256, f 1⟩,
       ⟨Rect.unit ![0, 0] S512x256.size inb_S512x512_S512x256_0_0, f 0⟩]) = twoHeads f := by
  funext y
  refine View.read_writes_apply_of_pieces v f₀ (twoHeads f) _ (fun p hp z => ?_) y ?_
  · rcases List.mem_cons.mp hp with rfl | hp
    · exact twoHeads_emb f 1 256 rfl inb_S512x512_S512x256_0_256 z
    · rcases List.mem_cons.mp hp with rfl | hp
      · exact twoHeads_emb f 0 0 rfl inb_S512x512_S512x256_0_0 z
      · exact absurd hp List.not_mem_nil
  · have hy : (y 1).val < 512 := (y 1).isLt
    have hy0 : (y 0).val < 512 := (y 0).isLt
    by_cases h : (y 1).val < 256
    · refine ⟨_, List.mem_cons_of_mem _ List.mem_cons_self, ?_⟩
      rw [Rect.mem_set_unit]
      intro a
      match a with
      | ⟨0, _⟩ => exact ⟨Nat.zero_le _, by show (y 0).val < 0 + 512; omega⟩
      | ⟨1, _⟩ => exact ⟨Nat.zero_le _, by show (y 1).val < 0 + 256; omega⟩
    · refine ⟨_, List.mem_cons_self, ?_⟩
      rw [Rect.mem_set_unit]
      intro a
      match a with
      | ⟨0, _⟩ => exact ⟨Nat.zero_le _, by show (y 0).val < 0 + 512; omega⟩
      | ⟨1, _⟩ => exact ⟨by show 256 ≤ (y 1).val; omega, by show (y 1).val < 256 + 256; omega⟩

/-- The store of the scales, over the whole buffer, leaves them. -/
theorem read_scales {κ : Kind} {sp : Space} (v : View sig κ sp S512x64 .f32) (f₀ : v.ty.Contents (Elt F)) (sc : Vec F S512x64 .f32) :
    v.read (Elt F) (v.writes (Elt F) f₀ [⟨Rect.unit ![0, 0] S512x64.size inb_S512x64_S512x64_0_0, sc⟩]) = sc := by
  funext y
  refine View.read_writes_apply_of_pieces v f₀ sc _ (fun p hp z => ?_) y ?_
  · rcases List.mem_cons.mp hp with rfl | hp
    · refine congrArg sc ?_
      funext a
      match a with
      | ⟨0, _⟩ => exact Fin.ext (by show (z 0).val = 0 + 1 * (z 0).val; omega)
      | ⟨1, _⟩ => exact Fin.ext (by show (z 1).val = 0 + 1 * (z 1).val; omega)
    · exact absurd hp List.not_mem_nil
  · refine ⟨_, List.mem_cons_self, ?_⟩
    rw [Rect.mem_set_unit]
    intro a
    match a with
    | ⟨0, _⟩ => exact ⟨Nat.zero_le _, by show (y 0).val < 0 + 512; have : (y 0).val < 512 := (y 0).isLt; omega⟩
    | ⟨1, _⟩ => exact ⟨Nat.zero_le _, by show (y 1).val < 0 + 64; have : (y 1).val < 64 := (y 1).isLt; omega⟩

end Cert.KernelIdeal.Value

end
-- ==== Proof.RunA.lean ====
/-
  The kernel body at a point whose inner coordinate is zero: it quantises its block of activations and multiplies.
-/
module

public import proofs.«01_k».proof.Proof.Blocks

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

-- (the run's proof term is large: checking it walks past the default budget)
set_option maxHeartbeats 8584000 in
/-- Where the inner coordinate is zero, the body leaves the block's codes, its scales, the block read back (in the
    scratch), and the product of the block read back with the two heads' weights. -/
theorem kernelRun0_A (c : Dev nD) (i : grid0.Coords) (arg2 : Memref sig .tc .smem S16x2x64 .f32) (harg2 : arg2.IsWhole) (arg3 : Memref sig .tc .vmem S512x8192 .bf16) (harg3 : arg3.IsWhole) (arg4 : Memref sig .tc .vmem S2x8192x256 .fp8e4m3) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (hc0 : cond0_0 i)
    (x0 : Vec F S16x2x64 .f32) (x1 : Vec F S512x8192 .bf16) (x2 : Vec F S2x8192x256 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare (outB (xsB x1) x0 x2 i) ∗ owns (c : Thread nD τ) arg6 fullShare (codesB x1) ∗ owns (c : Thread nD τ) arg7 fullShare (scB x1) ∗ owns (c : Thread nD τ) arg8 fullShare (xsB x1)) -∗ K ⟨⟩))
          ⊢ wp frame (wpE (defs₀ (F := F)) Variants.none c none) E (cc0_mla_up i arg2 harg2 arg3 harg3 arg4 harg4 arg5 harg5 arg6 harg6 arg7 harg7 arg8 harg8) K := by
    intro E K
    simp only [cc0_mla_up_eq_skeleton]; unfold cc0_mla_up_skel
    simp only [k0_part195_eq_skeleton, k0_part120_eq_skeleton, k0_part118_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part119_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    have hg : (fun g h => groupLd arg3 harg3 x1 g h) = fun g h => groupOf x1 g h := by
      funext g h; exact groupLd_eq arg3 harg3 x1 g h
    have ecodes : (fun (g : ℕ) (h : g < 64) => codesVec (groupLd arg3 harg3 x1 g h)) = fun g h => codesVec (groupOf x1 g h) := by
      funext g h; rw [groupLd_eq]
    have exs : (fun (g : ℕ) (h : g < 64) => xsVec (groupLd arg3 harg3 x1 g h)) = fun g h => xsVec (groupOf x1 g h) := by
      funext g h; rw [groupLd_eq]
    have esc : (fun (g : ℕ) (h : g < 64) => scaleVec (groupLd arg3 harg3 x1 g h)) = fun g h => scaleVec (groupOf x1 g h) := by
      funext g h; rw [groupLd_eq]
    have hxs : View.readCov arg8.view (pieces (fun g h => xsVec (groupLd arg3 harg3 x1 g h)) 64 le_rfl) wholeRect.toLoadRect = xsB x1 := by
      rw [exs]; exact readCov_pieces _ _
    sl_step
    iapply Hk
    isplitl [H0]; · iexists _; isplitr; · ipureintro; exact harg2.read_unread x0
                    iexact H0
    isplitl [H1]; · iexists _; isplitr; · ipureintro; exact harg3.read_unread x1
                    iexact H1
    isplitl [H2]; · iexists _; isplitr; · ipureintro; exact harg4.read_unread x2
                    iexact H2
    isplitl [H3]; · iexists _; isplitr
                    · ipureintro
                      refine Eq.trans (?_ : _ = View.read (Elt F) arg5.view (arg5.view.writes (Elt F) f3
                        [⟨Rect.unit ![0, 256] ![512, 256] inb_S512x512_S512x256_0_256, outHead (View.readCov arg8.view (pieces (fun g h => xsVec (groupLd arg3 harg3 x1 g h)) 64 le_rfl) wholeRect.toLoadRect) (wHead (tileLd arg4 harg4 x2 1) (scaleLd arg2 harg2 x0 i 1))⟩,
                         ⟨Rect.unit ![0, 0] S512x256.size inb_S512x512_S512x256_0_0, outHead (View.readCov arg8.view (pieces (fun g h => xsVec (groupLd arg3 harg3 x1 g h)) 64 le_rfl) wholeRect.toLoadRect) (wHead (tileLd arg4 harg4 x2 0) (scaleLd arg2 harg2 x0 i 0))⟩])) ?_
                      · rfl
                      · rw [hxs, wB_ld, wB_ld]; exact read_heads arg5.view f3 fun h => outHead (xsB x1) (wB x0 x2 i h)
                    iexact H3
    isplitl [H4]; · iexists _; isplitr
                    · ipureintro
                      refine Eq.trans (?_ : _ = View.read (Elt F) arg6.view (arg6.view.writes (Elt F) f4 (pieces (fun g h => codesVec (groupLd arg3 harg3 x1 g h)) 64 le_rfl))) ?_
                      · rfl
                      · rw [ecodes]; exact read_pieces arg6.view f4 _
                    iexact H4
    isplitl [H5]; · iexists _; isplitr
                    · ipureintro
                      refine Eq.trans (?_ : _ = View.read (Elt F) arg7.view (arg7.view.writes (Elt F) f5
                        [⟨Rect.unit ![0, 0] S512x64.size inb_S512x64_S512x64_0_0, scales (fun g h => scaleVec (groupLd arg3 harg3 x1 g h)) 64 le_rfl⟩])) ?_
                      · rfl
                      · rw [esc]; exact read_scales arg7.view f5 _
                    iexact H5
    iexists _; isplitr
    · ipureintro
      refine Eq.trans (?_ : _ = View.read (Elt F) arg8.view (arg8.view.writes (Elt F) fs0 (pieces (fun g h => xsVec (groupLd arg3 harg3 x1 g h)) 64 le_rfl))) ?_
      · rfl
      · rw [exs]; exact read_pieces arg8.view fs0 _
    iexact HS0

end Cert.KernelIdeal.Value

end
-- ==== Proof.RunB.lean ====
/-
  The kernel body at a point whose inner coordinate is not zero: it multiplies the block read back, which the scratch
  holds from the row's first point, with the point's weights.
-/
module

public import proofs.«01_k».proof.Proof.RunA

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 8584000 in
/-- Where the inner coordinate is not zero, the body leaves the product of what the scratch holds with the two heads'
    weights; the codes, the scales and the scratch stay. -/
theorem kernelRun0_B (c : Dev nD) (i : grid0.Coords) (arg2 : Memref sig .tc .smem S16x2x64 .f32) (harg2 : arg2.IsWhole) (arg3 : Memref sig .tc .vmem S512x8192 .bf16) (harg3 : arg3.IsWhole) (arg4 : Memref sig .tc .vmem S2x8192x256 .fp8e4m3) (harg4 : arg4.IsWhole) (arg5 : Memref sig .tc .vmem S512x512 .bf16) (harg5 : arg5.IsWhole) (arg6 : Memref sig .tc .vmem S512x8192 .fp8e4m3) (harg6 : arg6.IsWhole) (arg7 : Memref sig .tc .vmem S512x64 .f32) (harg7 : arg7.IsWhole) (arg8 : Memref sig .tc .vmem S512x8192 .bf16) (harg8 : arg8.IsWhole) (hc0 : ¬ cond0_0 i)
    (x0 : Vec F S16x2x64 .f32) (x1 : Vec F S512x8192 .bf16) (x2 : Vec F S2x8192x256 .fp8e4m3) (xs : Vec F S512x8192 .bf16)
    (x6 : Vec F S512x8192 .fp8e4m3) (x7 : Vec F S512x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x6 ∗ owns (c : Thread nD τ) arg7 fullShare x7 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare (outB xs x0 x2 i) ∗ owns (c : Thread nD τ) arg6 fullShare x6 ∗ owns (c : Thread nD τ) arg7 fullShare x7 ∗ owns (c : Thread nD τ) arg8 fullShare xs) -∗ K ⟨⟩))
          ⊢ wp frame (wpE (defs₀ (F := F)) Variants.none c none) E (cc0_mla_up i arg2 harg2 arg3 harg3 arg4 harg4 arg5 harg5 arg6 harg6 arg7 harg7 arg8 harg8) K := by
    intro E K
    simp only [cc0_mla_up_eq_skeleton]; unfold cc0_mla_up_skel
    simp only [k0_part195_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs, HS0⟩, Hk⟩
    obtain rfl := harg2.eq_unread hf0; obtain rfl := harg3.eq_unread hf1; obtain rfl := harg4.eq_unread hf2
    sl_exec (disch := first | sl_exact hc0)
    have hxs : View.readAt (Elt F) arg8.view wholeRect.toLoadRect fs0 = xs := by
      rw [View.readAt_eq_ld, hfs]; funext z; exact congrArg xs (wholeRect_idx z)
    sl_step
    iapply Hk
    isplitl [H0]; · iexists _; isplitr; · ipureintro; exact harg2.read_unread x0
                    iexact H0
    isplitl [H1]; · iexists _; isplitr; · ipureintro; exact harg3.read_unread x1
                    iexact H1
    isplitl [H2]; · iexists _; isplitr; · ipureintro; exact harg4.read_unread x2
                    iexact H2
    isplitl [H3]; · iexists _; isplitr
                    · ipureintro
                      refine Eq.trans (?_ : _ = View.read (Elt F) arg5.view (arg5.view.writes (Elt F) f3
                        [⟨Rect.unit ![0, 256] ![512, 256] inb_S512x512_S512x256_0_256, outHead (View.readAt (Elt F) arg8.view wholeRect.toLoadRect fs0) (wHead (tileLd arg4 harg4 x2 1) (scaleLd arg2 harg2 x0 i 1))⟩,
                         ⟨Rect.unit ![0, 0] S512x256.size inb_S512x512_S512x256_0_0, outHead (View.readAt (Elt F) arg8.view wholeRect.toLoadRect fs0) (wHead (tileLd arg4 harg4 x2 0) (scaleLd arg2 harg2 x0 i 0))⟩])) ?_
                      · rfl
                      · rw [hxs, wB_ld, wB_ld]; exact read_heads arg5.view f3 fun h => outHead xs (wB x0 x2 i h)
                    iexact H3
    isplitl [H4]; · iexists _; isplitr; · ipureintro; exact hf4
                    iexact H4
    isplitl [H5]; · iexists _; isplitr; · ipureintro; exact hf5
                    iexact H5
    iexists _; isplitr
    · ipureintro; exact hfs
    iexact HS0

end Cert.KernelIdeal.Value

end
-- ==== Proof.Run.lean ====
/-
  The run of the ideal kernel: what every output array holds at the end, and that the arguments are unchanged.

  The grid is walked row by row (24 blocks of 512 tokens, 8 pairs of heads each). The first point of a row quantises the
  row's block of activations into the codes and the scales and leaves the block read back in the scratch; the row's
  other points use the scratch and leave the codes and scales as they are, and its last point writes them out.
-/
module

public import proofs.«01_k».proof.Proof.RunB
public import Idealize.ShloMosaic.Lib.Claim
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of the activations -/

/-- Rows `512 r` to `512 r + 511` of the activations. -/
def xRows (X : Vec F S12288x8192 .bf16) (r : ℕ) : Vec F S512x8192 .bf16 := fun y => X fun a => match a with
  | ⟨0, _⟩ => ⟨(512 * r + (y 0).val) % 12288, Nat.mod_lt _ (by decide)⟩
  | ⟨1, _⟩ => ⟨(y 1).val, (y 1).isLt⟩

theorem index1 : ∀ t : Fin cfg0.N, win0_1.index t = ![t.val / 8, 0] :=
  (by decide +kernel : ∀ t : Fin grid0.N, win0_1.index t = ![t.val / 8, 0])

/-- The block of activations at point `t` is row block `t / 8`. -/
theorem iblk1 (c : Dev nD) (t : Fin cfg0.N) : iblk m c 1 t = xRows (V m c main_v1) (t.val / 8) := by
  funext y
  have hN : t.val < 192 := lt_of_lt_of_eq t.isLt (show cfg0.N = 192 from N_0)
  blk_simp [iblk]
  refine congrArg (V m c main_v1) (funext fun a => ?_)
  match a with
  | ⟨0, _⟩ =>
    refine Fin.ext ?_
    have hy : (y ⟨0, Nat.zero_lt_two⟩).val < 512 := (y ⟨0, Nat.zero_lt_two⟩).isLt
    have h : (((win0_1.blk t).view.emb y ⟨0, Nat.zero_lt_two⟩ : Fin _) : ℕ) = win0_1.index t ⟨0, Nat.zero_lt_two⟩ * 512 + (y ⟨0, Nat.zero_lt_two⟩).val := by
      blk_simp
    rw [index1] at h
    show (((win0_1.blk t).view.emb y ⟨0, Nat.zero_lt_two⟩ : Fin _) : ℕ) = (512 * (t.val / 8) + (y ⟨0, Nat.zero_lt_two⟩).val) % 12288
    rw [h]
    show (t.val / 8) * 512 + _ = _
    omega
  | ⟨1, _⟩ =>
    refine Fin.ext ?_
    have h : (((win0_1.blk t).view.emb y ⟨1, Nat.one_lt_two⟩ : Fin _) : ℕ) = win0_1.index t ⟨1, Nat.one_lt_two⟩ * 8192 + (y ⟨1, Nat.one_lt_two⟩).val := by
      blk_simp
    rw [index1] at h
    show (((win0_1.blk t).view.emb y ⟨1, Nat.one_lt_two⟩ : Fin _) : ℕ) = (y ⟨1, Nat.one_lt_two⟩).val
    rw [h]
    show 0 * 8192 + _ = _
    omega

/-! ## The pipeline's proof data -/

/-- The block of activations of row `r`. -/
abbrev xBlk (c : Dev nD) (r : ℕ) : Vec F S512x8192 .bf16 := xRows (V m c main_v1) r

/-- Between the points: inside a row the scratch holds the row's block read back, between rows anything. -/
def PhiS (c : Dev nD) (n : ℕ) (_ : n ≤ cfg0.N) : sProp 𝕄 :=
  if n % 8 = 0 then Pipeline.ΦA spec0 c
  else iprop(owns (c : Thread nD τ) scM0_0 fullShare (xsB (xBlk m c (n / 8))) ∗ (∃ r, prngReg c r))

/-- What the body leaves in each window's buffer at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (xsB (xBlk m c (t.val / 8))) (iblk m c 0 t) (iblk m c 2 t) (grid0.coords t)
    | ⟨4, _⟩ => codesB (xBlk m c (t.val / 8))
    | ⟨5, _⟩ => scB (xBlk m c (t.val / 8))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB (xsB (xBlk m c (t.val / 8))) (iblk m c 0 t) (iblk m c 2 t) (grid0.coords t) := by dsimp only [dats]
theorem after0_4 (c : Dev nD) (t : Fin cfg0.N) : (dats m 0 c).after 4 t = codesB (xBlk m c (t.val / 8)) := by dsimp only [dats]
theorem after0_5 (c : Dev nD) (t : Fin cfg0.N) : (dats m 0 c).after 5 t = scB (xBlk m c (t.val / 8)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant at a point's start. -/
theorem Phi_start (c : Dev nD) (t : Fin cfg0.N) : (dats m 0 c).Φ t.castSucc = PhiS m c t.val (Nat.le_of_lt t.isLt) := by
  dsimp only [dats]; exact Pipeline.Dat.Φ_castSucc (PhiS m c) t

/-- The invariant at a point's end. -/
theorem Phi_end (c : Dev nD) (t : Fin cfg0.N) : (dats m 0 c).Φ t.succ = PhiS m c (t.val + 1) t.isLt := by
  dsimp only [dats]; rfl

theorem PhiS_row (c : Dev nD) (n : ℕ) (h : n ≤ cfg0.N) (h0 : n % 8 = 0) : PhiS m c n h = Pipeline.ΦA spec0 c := if_pos h0

theorem PhiS_in (c : Dev nD) (n : ℕ) (h : n ≤ cfg0.N) (h0 : ¬ n % 8 = 0) (r : ℕ) (hr : n / 8 = r) :
    PhiS m c n h = iprop(owns (c : Thread nD τ) scM0_0 fullShare (xsB (xBlk m c r)) ∗ (∃ r, prngReg c r)) := by
  subst hr; exact if_neg h0

/-! ## The codes and the scales keep their contents along a row -/

theorem idle4_true (t : Fin cfg0.N) (h : ¬ t.val % 8 = 0) : cfg0.idle 4 (grid0.coords t) = true := by
  have h1 : ¬ k0_cond1 (grid0.coords t) = 1#1 := fun e => h ((hcond0_0 t).mp e)
  show (!(k0_cond1 (grid0.coords t) == 1#1)) = true
  rw [beq_eq_false_iff_ne.mpr h1]; rfl
theorem idle4_false (t : Fin cfg0.N) (h : t.val % 8 = 0) : cfg0.idle 4 (grid0.coords t) = false := by
  show (!(k0_cond1 (grid0.coords t) == 1#1)) = false
  rw [show k0_cond1 (grid0.coords t) = 1#1 from (hcond0_0 t).mpr h]; rfl
theorem idle5_true (t : Fin cfg0.N) (h : ¬ t.val % 8 = 0) : cfg0.idle 5 (grid0.coords t) = true := idle4_true t h
theorem idle5_false (t : Fin cfg0.N) (h : t.val % 8 = 0) : cfg0.idle 5 (grid0.coords t) = false := idle4_false t h

/-- A window that only a row's first point writes, and only its last point flushes, holds what the row's first point
    left, at each of the row's later points. -/
theorem before_row (c : Dev nD) (w : Fin cfg0.W) (hout : ∀ t, (cfg0.win w).fetch t = false)
    (hflush : ∀ t : Fin cfg0.N, (cfg0.win w).flush t = true ↔ t.val % 8 = 7)
    (hidle : ∀ t : Fin cfg0.N, ¬ t.val % 8 = 0 → cfg0.idle w (grid0.coords t) = true)
    (hlive : ∀ t : Fin cfg0.N, t.val % 8 = 0 → cfg0.idle w (grid0.coords t) = false)
    (hkept : ∀ t d, (dats m 0 c).kept w t d = (dats m 0 c).after w t)
    (hrow : ∀ t t' : Fin cfg0.N, t.val / 8 = t'.val / 8 → (dats m 0 c).after w t = (dats m 0 c).after w t') (d) :
    ∀ (n : ℕ) (h : n < cfg0.N), ¬ n % 8 = 0 → (dats m 0 c).before w ⟨n, h⟩ d = (dats m 0 c).after w ⟨n, h⟩
  | 0, _, h0 => absurd rfl h0
  | n + 1, h, h0 => by
    rw [(dats m 0 c).before_of_pos w ⟨n + 1, h⟩ (Nat.succ_ne_zero n) (hout _)]
    have hf : ¬ ((cfg0.win w).flush ⟨n, Nat.lt_of_succ_lt h⟩ = true) := fun e => by
      have := (hflush _).mp e; dsimp only at this; omega
    show (if (cfg0.win w).flush ⟨n, Nat.lt_of_succ_lt h⟩ = true then d else (dats m 0 c).left w ⟨n, Nat.lt_of_succ_lt h⟩ d) = _
    rw [if_neg hf]
    unfold Dat.left
    have hr : (dats m 0 c).after w ⟨n, Nat.lt_of_succ_lt h⟩ = (dats m 0 c).after w ⟨n + 1, h⟩ := hrow _ _ (by dsimp only; omega)
    by_cases hn : n % 8 = 0
    · rw [show cfg0.idle w (cfg0.grid.coords ⟨n, Nat.lt_of_succ_lt h⟩) = false from hlive ⟨n, Nat.lt_of_succ_lt h⟩ hn]
      exact (hkept _ d).trans hr
    · rw [show cfg0.idle w (cfg0.grid.coords ⟨n, Nat.lt_of_succ_lt h⟩) = true from hidle ⟨n, Nat.lt_of_succ_lt h⟩ hn]
      exact (before_row c w hout hflush hidle hlive hkept hrow d n (Nat.lt_of_succ_lt h) hn).trans hr

theorem before0_4 (c : Dev nD) (t : Fin cfg0.N) (h : ¬ t.val % 8 = 0) (d) : (dats m 0 c).before 4 t d = codesB (xBlk m c (t.val / 8)) :=
  (before_row m c 4 (fun _ => rfl) flush0_4 idle4_true idle4_false (fun t d => by
      unfold Dat.kept
      rw [Pipeline.fill_of_clip_none (cfg := cfg0) 4 _ (fun _ => rfl) d ((dats m 0 c).after 4 t), Window.fill_cut])
    (fun t t' e => by rw [after0_4, after0_4, e]) d t.val t.isLt h).trans (after0_4 m c t)

theorem before0_5 (c : Dev nD) (t : Fin cfg0.N) (h : ¬ t.val % 8 = 0) (d) : (dats m 0 c).before 5 t d = scB (xBlk m c (t.val / 8)) :=
  (before_row m c 5 (fun _ => rfl) flush0_5 idle5_true idle5_false (fun t d => by
      unfold Dat.kept
      rw [Pipeline.fill_of_clip_none (cfg := cfg0) 5 _ (fun _ => rfl) d ((dats m 0 c).after 5 t), Window.fill_cut])
    (fun t t' e => by rw [after0_5, after0_5, e]) d t.val t.isLt h).trans (after0_5 m c t)

/-- At a row's later points the body hands the codes (and the scales) back as they were, flushed there or not. -/
theorem leaves4 (c : Dev nD) (t : Fin cfg0.N) :
    owns (c : Thread nD τ) (ms0_4 t) fullShare (codesB (xBlk m c (t.val / 8))) ⊢ (dats m 0 c).leavesExact 4 t := by
  unfold Dat.leavesExact
  by_cases h : t.val % 8 = 0
  · rw [show cfg0.idle 4 (cfg0.grid.coords t) = false from idle4_false t h, after0_4]
  · rw [show cfg0.idle 4 (cfg0.grid.coords t) = true from idle4_true t h]
    cases (cfg0.win 4).flush t
    · iintro H; iexists (codesB (xBlk m c (t.val / 8))); rw [before0_4 m c t h]; iexact H
    · dsimp only; rw [after0_4]
theorem leaves5 (c : Dev nD) (t : Fin cfg0.N) :
    owns (c : Thread nD τ) (ms0_5 t) fullShare (scB (xBlk m c (t.val / 8))) ⊢ (dats m 0 c).leavesExact 5 t := by
  unfold Dat.leavesExact
  by_cases h : t.val % 8 = 0
  · rw [show cfg0.idle 5 (cfg0.grid.coords t) = false from idle5_false t h, after0_5]
  · rw [show cfg0.idle 5 (cfg0.grid.coords t) = true from idle5_true t h]
    cases (cfg0.win 5).flush t
    · iintro H; iexists (scB (xBlk m c (t.val / 8))); rw [before0_5 m c t h]; iexact H
    · dsimp only; rw [after0_5]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The scratch at some contents is what the invariant asks between rows. -/
theorem Phi_forget (c : Dev nD) (X : Vec F S512x8192 .bf16) :
    iprop(owns (c : Thread nD τ) scM0_0 fullShare X ∗ (∃ r, prngReg c r)) ⊢ (Pipeline.ΦA spec0 c : sProp 𝕄) := by
  rw [PhiA0_eq]
  iintro ⟨H, Hg⟩
  isplitl [H]; · iexists _; iexact H
  iexact Hg

set_option maxHeartbeats 800000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [Phi_start, Phi_end]
  by_cases h0 : t.val % 8 = 0
  · rw [PhiS_row m c _ _ h0, PhiS_in m c (t.val + 1) _ (by omega) (t.val / 8) (by omega), PhiA0_eq]
    iintro ⟨⟨HS0, Hg⟩, Ho, ⟨%d0, H0⟩, ⟨%d1, H1⟩, ⟨%d2, H2⟩, ⟨%d3, H3⟩, ⟨%d4, H4⟩, ⟨%d5, H5⟩⟩
    rw [iblk1 m c t]
    iapply ((kernelRun0_A c (grid0.coords t) _ _ _ _ _ _ _ _ _ _ _ _ _ _ ((hcond0_0 t).mpr h0) (iblk m c 0 t) (xBlk m c (t.val / 8)) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (leaves4 m c t); iexact H4
    iapply (leaves5 m c t); iexact H5
  · rw [PhiS_in m c t.val _ h0 (t.val / 8) rfl]
    iintro ⟨⟨HS0, Hg⟩, Ho, ⟨%d0, H0⟩, ⟨%d1, H1⟩, ⟨%d2, H2⟩, ⟨%d3, H3⟩, ⟨%d4, H4⟩, ⟨%d5, H5⟩⟩
    rw [before0_4 m c t h0, before0_5 m c t h0]
    iapply ((kernelRun0_B c (grid0.coords t) _ _ _ _ _ _ _ _ _ _ _ _ _ _ (fun h => h0 ((hcond0_0 t).mp h)) (iblk m c 0 t) (iblk m c 1 t) (iblk m c 2 t)
      (xsB (xBlk m c (t.val / 8))) (codesB (xBlk m c (t.val / 8))) (scB (xBlk m c (t.val / 8)))) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · by_cases h1 : (t.val + 1) % 8 = 0
      · rw [PhiS_row m c (t.val + 1) _ h1]
        iapply (Phi_forget c (xsB (xBlk m c (t.val / 8))))
        isplitl [HS0]
        · iexact HS0
        iexact Hg
      · rw [PhiS_in m c (t.val + 1) _ h1 (t.val / 8) (by omega)]
        isplitl [HS0]
        · iexact HS0
        iexact Hg
    isplitl [Ho]; · iexact Ho
    isplitl [H0]; · iexact H0
    isplitl [H1]; · iexact H1
    isplitl [H2]; · iexact H2
    isplitl [H3]; · iexact H3
    isplitl [H4]; · iapply (leaves4 m c t); iexact H4
    iapply (leaves5 m c t); iexact H5

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution terminates; the windowed arrays end at what the points wrote back, every other buffer as the region
    found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => .rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: no fault, the arguments unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Value

end
-- ==== Proof.Exponent.lean ====
/-
  THE POWER-OF-TWO SCALE. A scale word is found by trying the eight exponent bits from the highest down and keeping each that
  does not pass the value. Over the extended reals the word found is that of the largest power of two up to the value, so the
  scale and its reciprocal are the powers of two that `floor(log2 y) + 1` gives.
-/
module

public import Idealize.ShloMosaic.PureOps.Ideal

@[expose] public section

namespace Cert.Exponent

open Idealize Idealize.ShloMosaic

/-- The word with exponent field `E` and no fraction. -/
def word (E : ℕ) : BitVec 32 := BitVec.ofNat 32 (E * 8388608)

/-- The number of such a word. -/
noncomputable def val (E : ℕ) : EReal := Ideal.ofBits .f32 (word E)

theorem fields : ∀ E < 256, ((word E).extractLsb' 31 1 == 1#1) = false ∧ ((word E).extractLsb' 23 8).toNat = E
    ∧ ((word E).extractLsb' 0 23).toNat = 0 := by
  decide +kernel

theorem val_zero : val 0 = 0 := by
  obtain ⟨h1, h2, h3⟩ := fields 0 (by omega)
  simp only [val, Ideal.ofBits, Ideal.ieee, h2, h3]
  simp

theorem val_inf : val 255 = ⊤ := by
  obtain ⟨h1, h2, h3⟩ := fields 255 (by omega)
  simp only [val, Ideal.ofBits, Ideal.ieee, h2, h3, h1]
  simp

/-- The exponent fields in between are the powers of two. -/
theorem val_mid (E : ℕ) (h0 : 0 < E) (h1 : E < 255) : val E = (((2 : ℝ) ^ ((E : ℝ) - 127) : ℝ) : EReal) := by
  obtain ⟨h1', h2, h3⟩ := fields E (by omega)
  have e : (2 : ℝ) ^ ((E : ℝ) - 127) = 2 ^ 23 * (2 : ℝ) ^ ((E : ℤ) - 127 - 23) := by
    rw [show ((E : ℝ) - 127) = (((E : ℤ) - 127 : ℤ) : ℝ) by push_cast; ring, Real.rpow_intCast,
      zpow_sub₀ (by norm_num : (2 : ℝ) ≠ 0) ((E : ℤ) - 127) 23]
    norm_num
    field_simp
  rw [e]
  simp only [val, Ideal.ofBits, Ideal.ieee, h2, h3, h1']
  rw [if_neg (by omega), if_neg (by omega)]
  norm_num

theorem or_bit : ∀ k < 8, ∀ E < 256, E % 2 ^ (k + 1) = 0 →
    IntOp.ori (word E) (word (2 ^ k)) = word (E + 2 ^ k) := by
  decide +kernel

/-- One step of the search, on one number: the bit is kept if the word with it does not pass `y`. -/
noncomputable def grow1 (y : EReal) (b e : BitVec 32) : BitVec 32 :=
  Scalar.select (Ideal.cmp .oge y (Ideal.ofBits .f32 (IntOp.ori e b))) (IntOp.ori e b) e

/-- What holds before bit `k - 1` is tried. -/
def Inv (y : EReal) (k : ℕ) (E : ℕ) : Prop :=
  E % 2 ^ k = 0 ∧ E < 256 ∧ val E ≤ y ∧ (E + 2 ^ k < 256 → y < val (E + 2 ^ k))

theorem step (y : EReal) (k : ℕ) (hk : k < 8) (E : ℕ) (h : Inv y (k + 1) E) :
    ∃ E', grow1 y (word (2 ^ k)) (word E) = word E' ∧ Inv y k E' := by
  obtain ⟨hm, hlt, hle, hgt⟩ := h
  have hor := or_bit k hk E hlt hm
  unfold grow1
  rw [hor]
  by_cases hc : val (E + 2 ^ k) ≤ y
  · refine ⟨E + 2 ^ k, ?_, ?_, ?_, hc, ?_⟩
    · rw [show Ideal.cmp .oge y (Ideal.ofBits .f32 (word (E + 2 ^ k))) = 1#1 by
        simp only [Ideal.cmp]; rw [show Ideal.ofBits .f32 (word (E + 2 ^ k)) = val (E + 2 ^ k) from rfl]; simp [hc]]
      rfl
    · interval_cases k <;> simp only [Nat.reducePow, Nat.reduceAdd] at hm ⊢ <;> omega
    · interval_cases k <;> simp only [Nat.reducePow, Nat.reduceAdd] at hm ⊢ <;> omega
    · intro h
      have : E + 2 ^ k + 2 ^ k = E + 2 ^ (k + 1) := by rw [pow_succ]; omega
      rw [this] at h ⊢
      exact hgt h
  · refine ⟨E, ?_, ?_, hlt, hle, fun _ => lt_of_not_ge hc⟩
    · rw [show Ideal.cmp .oge y (Ideal.ofBits .f32 (word (E + 2 ^ k))) = 0#1 by
        simp only [Ideal.cmp]; rw [show Ideal.ofBits .f32 (word (E + 2 ^ k)) = val (E + 2 ^ k) from rfl]; simp [hc]]
      rfl
    · interval_cases k <;> simp only [Nat.reducePow, Nat.reduceAdd] at hm ⊢ <;> omega

/-- The whole search on one number. -/
noncomputable def expo1 (y : EReal) : BitVec 32 :=
  grow1 y 8388608#32 (grow1 y 16777216#32 (grow1 y 33554432#32 (grow1 y 67108864#32 (grow1 y 134217728#32
    (grow1 y 268435456#32 (grow1 y 536870912#32 (grow1 y 1073741824#32 0#32)))))))

theorem bits : word (2 ^ 0) = 8388608#32 ∧ word (2 ^ 1) = 16777216#32 ∧ word (2 ^ 2) = 33554432#32 ∧
    word (2 ^ 3) = 67108864#32 ∧ word (2 ^ 4) = 134217728#32 ∧ word (2 ^ 5) = 268435456#32 ∧
    word (2 ^ 6) = 536870912#32 ∧ word (2 ^ 7) = 1073741824#32 ∧ word 0 = 0#32 := by
  decide +kernel

/-- The search finds the largest exponent field whose number is at most `y`. -/
theorem expo1_spec (y : EReal) (hy : 0 ≤ y) :
    ∃ E, expo1 y = word E ∧ E < 256 ∧ val E ≤ y ∧ (E + 1 < 256 → y < val (E + 1)) := by
  obtain ⟨b0, b1, b2, b3, b4, b5, b6, b7, bz⟩ := bits
  have h0 : Inv y 8 0 := ⟨rfl, by omega, by rw [val_zero]; exact hy, fun h => by norm_num at h⟩
  obtain ⟨E7, e7, h7⟩ := step y 7 (by omega) 0 h0
  obtain ⟨E6, e6, h6⟩ := step y 6 (by omega) E7 h7
  obtain ⟨E5, e5, h5⟩ := step y 5 (by omega) E6 h6
  obtain ⟨E4, e4, h4⟩ := step y 4 (by omega) E5 h5
  obtain ⟨E3, e3, h3⟩ := step y 3 (by omega) E4 h4
  obtain ⟨E2, e2, h2⟩ := step y 2 (by omega) E3 h3
  obtain ⟨E1, e1, h1⟩ := step y 1 (by omega) E2 h2
  obtain ⟨E, e, h⟩ := step y 0 (by omega) E1 h1
  refine ⟨E, ?_, h.2.1, h.2.2.1, fun hh => h.2.2.2 hh⟩
  rw [b7, bz] at e7
  rw [b6] at e6; rw [b5] at e5; rw [b4] at e4; rw [b3] at e3; rw [b2] at e2; rw [b1] at e1; rw [b0] at e
  unfold expo1
  rw [e7, e6, e5, e4, e3, e2, e1, e]

/-- The scale's word from the exponent word: one exponent higher, and 1 where there is none to raise. -/
def next1 (e : BitVec 32) : BitVec 32 :=
  Scalar.select (IntOp.andi (IntOp.cmpi .ne e 0#32) (IntOp.cmpi .ne e 2139095040#32)) (IntOp.addi e 8388608#32) 1065353216#32

theorem next1_mid : ∀ E < 253, 0 < E → next1 (word E) = word (E + 1) ∧
    IntOp.subi 2130706432#32 (word (E + 1)) = word (253 - E) := by
  decide +kernel

theorem next1_ends : next1 (word 0) = word 127 ∧ next1 (word 255) = word 127 ∧
    IntOp.subi 2130706432#32 (word 127) = word 127 := by
  decide +kernel

/-- The exponent of the scale as plain mathematics: 0 below the smallest normal number and at infinity, else one more than the
    floor of the base-two logarithm. -/
noncomputable def exponent (y : EReal) : EReal :=
  Scalar.select (IntOp.ori (Ideal.cmp .olt y (Ideal.ofBits .f32 0x00800000#32)) (Ideal.cmp .oeq y (Ideal.ofBits .f32 0x7F800000#32)))
    (Ideal.ofBits .f32 0x00000000#32)
    (Ideal.liftRound Int.floor (Ideal.div (Ideal.log y) (Ideal.log (Ideal.ofBits .f32 0x40000000#32))) + Ideal.ofBits .f32 0x3F800000#32)

/-- The scale. -/
noncomputable def scaleOf (y : EReal) : EReal := Ideal.exp2 (exponent y)

/-- Its reciprocal. -/
noncomputable def invOf (y : EReal) : EReal := Ideal.exp2 (Ideal.ofBits .f32 0x00000000#32 - exponent y)

theorem lits : (0x00800000#32 : BitVec 32) = word 1 ∧ (0x7F800000#32 : BitVec 32) = word 255 ∧
    (0x00000000#32 : BitVec 32) = word 0 ∧ (0x40000000#32 : BitVec 32) = word 128 ∧ (0x3F800000#32 : BitVec 32) = word 127 := by
  decide +kernel

theorem exp2_coe (r : ℝ) : Ideal.exp2 (r : EReal) = (((2 : ℝ) ^ r : ℝ) : EReal) := rfl

/-- Outside the normal numbers the exponent is 0. -/
theorem exponent_ends (y : EReal) (h : y < val 1 ∨ y = ⊤) : exponent y = 0 := by
  obtain ⟨l1, l255, l0, l128, l127⟩ := lits
  unfold exponent
  rw [l1, l255, l0]
  have : IntOp.ori (Ideal.cmp .olt y (Ideal.ofBits .f32 (word 1))) (Ideal.cmp .oeq y (Ideal.ofBits .f32 (word 255))) = 1#1 := by
    rw [show Ideal.ofBits .f32 (word 1) = val 1 from rfl, show Ideal.ofBits .f32 (word 255) = ⊤ from val_inf]
    rcases h with h | h
    · simp only [Ideal.cmp, h, decide_true, IntOp.ori]
      cases decide (y = ⊤) <;> decide
    · simp only [Ideal.cmp, h, decide_true, IntOp.ori]
      cases decide ((⊤ : EReal) < val 1) <;> decide
  rw [this]
  exact val_zero

/-- Between two neighbouring powers of two the exponent is that of the upper one. -/
theorem exponent_mid (r : ℝ) (E : ℕ) (h0 : 0 < E) (h1 : E < 254) (hle : val E ≤ (r : EReal)) (hlt : (r : EReal) < val (E + 1)) :
    exponent (r : EReal) = (((E : ℝ) - 126 : ℝ) : EReal) := by
  obtain ⟨l1, l255, l0, l128, l127⟩ := lits
  have hE := hle
  rw [val_mid E h0 (by omega), EReal.coe_le_coe_iff] at hle
  rw [val_mid (E + 1) (by omega) (by omega), EReal.coe_lt_coe_iff] at hlt
  have hpos : (0 : ℝ) < r := lt_of_lt_of_le (Real.rpow_pos_of_pos two_pos _) hle
  have h1le : val 1 ≤ (r : EReal) := by
    rw [val_mid 1 (by omega) (by omega), EReal.coe_le_coe_iff]
    refine le_trans ?_ hle
    apply Real.rpow_le_rpow_of_exponent_le one_le_two
    have : (1 : ℝ) ≤ E := by exact_mod_cast h0
    push_cast
    linarith
  unfold exponent
  rw [l1, l255, l0, l128, l127]
  have : IntOp.ori (Ideal.cmp .olt (r : EReal) (Ideal.ofBits .f32 (word 1)))
      (Ideal.cmp .oeq (r : EReal) (Ideal.ofBits .f32 (word 255))) = 0#1 := by
    rw [show Ideal.ofBits .f32 (word 1) = val 1 from rfl, show Ideal.ofBits .f32 (word 255) = ⊤ from val_inf]
    simp only [Ideal.cmp, not_lt.mpr h1le, EReal.coe_ne_top, decide_false]
    decide
  rw [this]
  have hl2 : (0 : ℝ) < Real.log 2 := Real.log_pos one_lt_two
  have e2 : Ideal.log (Ideal.ofBits .f32 (word 128)) = ((Real.log 2 : ℝ) : EReal) := by
    rw [show Ideal.ofBits .f32 (word 128) = val 128 from rfl, val_mid 128 (by omega) (by omega)]
    show (if (2 : ℝ) ^ (((128 : ℕ) : ℝ) - 127) ≤ 0 then (⊥ : EReal) else (Real.log ((2 : ℝ) ^ (((128 : ℕ) : ℝ) - 127)) : EReal)) = _
    norm_num
  have er : Ideal.log (r : EReal) = ((Real.log r : ℝ) : EReal) := by
    show (if r ≤ 0 then (⊥ : EReal) else (Real.log r : EReal)) = _
    rw [if_neg (not_le.mpr hpos)]
  have e1 : Ideal.ofBits .f32 (word 127) = ((1 : ℝ) : EReal) := by
    rw [show Ideal.ofBits .f32 (word 127) = val 127 from rfl, val_mid 127 (by omega) (by omega)]
    norm_num
  have hfl : ⌊Real.log r / Real.log 2⌋ = (E : ℤ) - 127 := by
    rw [Int.floor_eq_iff]
    have hlog1 := Real.log_le_log (Real.rpow_pos_of_pos two_pos _) hle
    have hlog2 := Real.log_lt_log hpos hlt
    rw [Real.log_rpow two_pos] at hlog1 hlog2
    push_cast at hlog2 ⊢
    refine ⟨by rw [le_div_iff₀ hl2]; exact hlog1, by rw [div_lt_iff₀ hl2]; linarith⟩
  rw [e2, er, e1, Ideal.div_coe hl2.ne', ← EReal.coe_mul, mul_one_div]
  show Ideal.liftRound Int.floor ((Real.log r / Real.log 2 : ℝ) : EReal) + ((1 : ℝ) : EReal) = _
  have : Ideal.liftRound Int.floor ((Real.log r / Real.log 2 : ℝ) : EReal) = (((E : ℝ) - 127 : ℝ) : EReal) := by
    show (((⌊Real.log r / Real.log 2⌋ : ℤ) : ℝ) : EReal) = _
    rw [hfl]; push_cast; rfl
  rw [this, ← EReal.coe_add]
  congr 1
  ring

/-- THE SCALE: for a value at most `2 ^ 125` or infinite, the words that the search gives are the scale and its reciprocal. -/
theorem search (y : EReal) (hy : 0 ≤ y) (hb : y < val 252 ∨ y = ⊤) :
    Ideal.ofBits .f32 (next1 (expo1 y)) = scaleOf y ∧
      Ideal.ofBits .f32 (IntOp.subi 2130706432#32 (next1 (expo1 y))) = invOf y := by
  obtain ⟨E, he, hE, hle, hlt⟩ := expo1_spec y hy
  obtain ⟨l1, l255, l0, l128, l127⟩ := lits
  have z0 : Ideal.ofBits .f32 0x00000000#32 = 0 := by rw [l0]; exact val_zero
  have one : val 127 = 1 := by
    rw [val_mid 127 (by omega) (by omega)]; norm_num
  have ends : ∀ F, word F = next1 (expo1 y) → F = 127 → exponent y = 0 →
      Ideal.ofBits .f32 (next1 (expo1 y)) = scaleOf y ∧
      Ideal.ofBits .f32 (IntOp.subi 2130706432#32 (next1 (expo1 y))) = invOf y := by
    intro F hF h127 hx
    rw [← hF, h127, next1_ends.2.2]
    unfold scaleOf invOf
    rw [hx, z0]
    have e0 : Ideal.exp2 (0 : EReal) = 1 := by
      rw [← EReal.coe_zero, exp2_coe]; norm_num
    rw [show (0 : EReal) - 0 = 0 by simp, e0]
    exact ⟨one, one⟩
  rw [he] at ends
  rcases Nat.eq_zero_or_pos E with h0 | h0
  · subst h0
    exact he ▸ ends 127 next1_ends.1.symm rfl (exponent_ends y (Or.inl (hlt (by omega))))
  rcases hb with hb | hb
  · -- a finite value, between two powers of two
    have hEb : E < 252 := by
      by_contra hcon
      have : val 252 ≤ val E := by
        rcases Nat.lt_or_ge E 255 with h | h
        · rw [val_mid 252 (by omega) (by omega), val_mid E h0 h, EReal.coe_le_coe_iff]
          apply Real.rpow_le_rpow_of_exponent_le one_le_two
          have : (252 : ℝ) ≤ E := by exact_mod_cast not_lt.mp hcon
          push_cast
          linarith
        · rw [show E = 255 by omega, val_inf]; exact le_top
      exact absurd (lt_of_lt_of_le hb (this.trans hle)) (lt_irrefl _)
    have hlt' := hlt (by omega)
    have hnt : y ≠ ⊤ := ne_top_of_lt hlt'
    have hnb : y ≠ ⊥ := fun h => by rw [h] at hy; exact absurd hy (not_le.mpr EReal.bot_lt_zero)
    lift y to ℝ using ⟨hnt, hnb⟩
    have hx := exponent_mid y E h0 (by omega) hle hlt'
    obtain ⟨n1, n2⟩ := next1_mid E (by omega) h0
    rw [he, n1, n2]
    unfold scaleOf invOf
    rw [hx, z0, zero_sub, ← EReal.coe_neg, exp2_coe, exp2_coe]
    constructor
    · rw [show Ideal.ofBits .f32 (word (E + 1)) = val (E + 1) from rfl, val_mid _ (by omega) (by omega)]
      congr 2; push_cast; ring
    · rw [show Ideal.ofBits .f32 (word (253 - E)) = val (253 - E) from rfl, val_mid _ (by omega) (by omega)]
      congr 2; rw [Nat.cast_sub (by omega)]; push_cast; ring
  · -- infinity
    subst hb
    have : E = 255 := by
      by_contra hcon
      exact absurd (hlt (by omega)) not_top_lt
    subst this
    exact he ▸ ends 127 next1_ends.2.1.symm rfl (exponent_ends ⊤ (Or.inr rfl))

end Cert.Exponent
-- ==== Proof.Quant.lean ====
/-
  The quantiser and the product over the extended reals, as plain functions of the arguments: the ratio of a group's largest
  magnitude to 448, the code and the read-back value of each of its columns, and one element of the product. Both programs are
  shown to compute these.
-/
module

public import proofs.«01_k».proof.Proof.Exponent
public import Idealize.ShloMosaic.Lib.ValueIdx

@[expose] public section

noncomputable section

namespace Cert.Quant

open Idealize Idealize.ShloMosaic Cert.Exponent
open Idealize.ShloMosaic.ValueIdx (ix2 ix3)

/-- The largest magnitude of a group of 128 values. -/
def amaxOf (f : Fin 128 → EReal) : EReal :=
  (Finset.univ : Finset (Fin 128)).fold max (Ideal.ofBits .f32 0xFF800000#32) fun k => max (f k) (-f k)

/-- The largest magnitude times the number that stands for 1 / 448. -/
def ratioOf (f : Fin 128 → EReal) : EReal := amaxOf f * Ideal.ofBits .f32 0x3B124925#32

/-- A group's code: the value over the scale, clipped to ±448. -/
def codeOf (f : Fin 128 → EReal) (k : Fin 128) : EReal :=
  min (Ideal.ofBits .f32 0x43E00000#32) (max (Ideal.ofBits .f32 0xC3E00000#32) (f k * invOf (ratioOf f)))

/-- The value read back from the code. -/
def backOf (f : Fin 128 → EReal) (k : Fin 128) : EReal := codeOf f k * Exponent.scaleOf (ratioOf f)

/-- The shape of the activations. -/
abbrev SX : Shape := ⟨3, ![2, 6144, 8192]⟩
/-- The shape of the weights. -/
abbrev SW : Shape := ⟨3, ![16, 8192, 256]⟩
/-- The shape of the weights' scales. -/
abbrev SS : Shape := ⟨3, ![16, 64, 2]⟩

/-- Group `g` of token `r`, the tokens of both sequences counted on. -/
def group (A : SX.Idx → EReal) (r g : ℕ) : Fin 128 → EReal := fun k =>
  A (ix3 (n0 := 2) (n1 := 6144) (n2 := 8192) ⟨r / 6144 % 2, Nat.mod_lt _ (by decide)⟩ ⟨r % 6144, Nat.mod_lt _ (by decide)⟩
    ⟨(128 * g + k.val) % 8192, Nat.mod_lt _ (by decide)⟩)

/-- The code at token `r`, column `c`. -/
def codeAt (A : SX.Idx → EReal) (r c : ℕ) : EReal := codeOf (group A r (c / 128)) ⟨c % 128, Nat.mod_lt _ (by decide)⟩
/-- The value read back at token `r`, column `c`. -/
def backAt (A : SX.Idx → EReal) (r c : ℕ) : EReal := backOf (group A r (c / 128)) ⟨c % 128, Nat.mod_lt _ (by decide)⟩
/-- The scale of group `g` of token `r`. -/
def scaleAt (A : SX.Idx → EReal) (r g : ℕ) : EReal := Exponent.scaleOf (ratioOf (group A r g))

/-- The weight at row `k` and column `n`, the heads' columns counted on, times the scale of its 128 × 128 block. -/
def weightAt (W : SW.Idx → EReal) (S : SS.Idx → EReal) (k n : ℕ) : EReal :=
  W (ix3 (n0 := 16) (n1 := 8192) (n2 := 256) ⟨n / 256 % 16, Nat.mod_lt _ (by decide)⟩ ⟨k % 8192, Nat.mod_lt _ (by decide)⟩
      ⟨n % 256, Nat.mod_lt _ (by decide)⟩)
    * S (ix3 (n0 := 16) (n1 := 64) (n2 := 2) ⟨n / 256 % 16, Nat.mod_lt _ (by decide)⟩ ⟨k / 128 % 64, Nat.mod_lt _ (by decide)⟩
      ⟨n % 256 / 128 % 2, Nat.mod_lt _ (by decide)⟩)

/-- One element of the product. -/
def productAt (A : SX.Idx → EReal) (W : SW.Idx → EReal) (S : SS.Idx → EReal) (r n : ℕ) : EReal :=
  Ideal.ofBits .f32 0x00000000#32 + ∑ k : Fin 8192, backAt A r k.val * weightAt W S k.val n

/-! ## The size of the ratio -/

/-- A value is one that bf16 has, in magnitude: at most its largest finite number, or infinite. -/
def Small (x : EReal) : Prop := max x (-x) ≤ Ideal.ofBits .f32 0x7F7F0000#32 ∨ max x (-x) = ⊤

theorem abs_nonneg (x : EReal) : 0 ≤ max x (-x) := by
  rcases le_total 0 x with h | h
  · exact h.trans (le_max_left _ _)
  · exact (EReal.neg_nonneg.mpr h).trans (le_max_right _ _)

theorem big_eq : Ideal.ofBits .f32 0x7F7F0000#32 = (((2 : ℝ) ^ 104 * 16711680 : ℝ) : EReal) := by
  have h1 : ((0x7F7F0000#32 : BitVec 32).extractLsb' 31 1 == 1#1) = false := by decide
  have h2 : ((0x7F7F0000#32 : BitVec 32).extractLsb' 23 8).toNat = 254 := by decide
  have h3 : ((0x7F7F0000#32 : BitVec 32).extractLsb' 0 23).toNat = 8323072 := by decide
  simp only [Ideal.ofBits, Ideal.ieee, h1, h2, h3]
  rw [if_neg (by omega), if_neg (by omega)]
  norm_num

theorem recip_eq : Ideal.ofBits .f32 0x3B124925#32 = ((9586981 / (2 : ℝ) ^ 32 : ℝ) : EReal) := by
  have h1 : ((0x3B124925#32 : BitVec 32).extractLsb' 31 1 == 1#1) = false := by decide
  have h2 : ((0x3B124925#32 : BitVec 32).extractLsb' 23 8).toNat = 118 := by decide
  have h3 : ((0x3B124925#32 : BitVec 32).extractLsb' 0 23).toNat = 1198373 := by decide
  simp only [Ideal.ofBits, Ideal.ieee, h1, h2, h3]
  rw [if_neg (by omega), if_neg (by omega)]
  norm_num [zpow_neg]

theorem recip_pos : (0 : EReal) < Ideal.ofBits .f32 0x3B124925#32 := by
  rw [recip_eq, ← EReal.coe_zero, EReal.coe_lt_coe_iff]; positivity

theorem amax_nonneg (f : Fin 128 → EReal) : 0 ≤ amaxOf f := by
  unfold amaxOf
  rw [Finset.le_fold_max]
  exact Or.inr ⟨0, Finset.mem_univ _, abs_nonneg _⟩

theorem ratio_nonneg (f : Fin 128 → EReal) : 0 ≤ ratioOf f := mul_nonneg (amax_nonneg f) recip_pos.le

/-- The ratio of a group of bf16 values is far below the largest powers of two, or infinite. -/
theorem ratio_small (f : Fin 128 → EReal) (h : ∀ k, Small (f k)) : ratioOf f < val 252 ∨ ratioOf f = ⊤ := by
  by_cases ht : ∃ k, max (f k) (-f k) = ⊤
  · right
    obtain ⟨k, hk⟩ := ht
    have : amaxOf f = ⊤ := by
      apply top_le_iff.mp
      unfold amaxOf
      rw [Finset.le_fold_max]
      exact Or.inr ⟨k, Finset.mem_univ _, hk.ge⟩
    unfold ratioOf
    rw [this, EReal.top_mul_of_pos recip_pos]
  · left
    have hb : amaxOf f ≤ Ideal.ofBits .f32 0x7F7F0000#32 := by
      unfold amaxOf
      rw [Finset.fold_max_le]
      refine ⟨?_, fun k _ => (h k).resolve_right fun e => ht ⟨k, e⟩⟩
      have : Ideal.ofBits .f32 0xFF800000#32 = ⊥ := by
        have h1 : ((0xFF800000#32 : BitVec 32).extractLsb' 31 1 == 1#1) = true := by decide
        have h2 : ((0xFF800000#32 : BitVec 32).extractLsb' 23 8).toNat = 255 := by decide
        have h3 : ((0xFF800000#32 : BitVec 32).extractLsb' 0 23).toNat = 0 := by decide
        simp only [Ideal.ofBits, Ideal.ieee, h1, h2, h3]
        simp
      rw [this]; exact bot_le
    have hm : ratioOf f ≤ Ideal.ofBits .f32 0x7F7F0000#32 * Ideal.ofBits .f32 0x3B124925#32 :=
      mul_le_mul_of_nonneg_right hb recip_pos.le
    refine lt_of_le_of_lt hm ?_
    rw [big_eq, recip_eq, ← EReal.coe_mul, val_mid 252 (by omega) (by omega), EReal.coe_lt_coe_iff]
    rw [show (((252 : ℕ) : ℝ) - 127) = ((125 : ℕ) : ℝ) by norm_num, Real.rpow_natCast]
    norm_num

/-- So for such a group the words that the search finds are the scale and its reciprocal. -/
theorem search_group (f : Fin 128 → EReal) (h : ∀ k, Small (f k)) :
    Ideal.ofBits .f32 (next1 (expo1 (ratioOf f))) = Exponent.scaleOf (ratioOf f) ∧
      Ideal.ofBits .f32 (IntOp.subi 2130706432#32 (next1 (expo1 (ratioOf f)))) = invOf (ratioOf f) :=
  search _ (ratio_nonneg f) (ratio_small f h)

end Cert.Quant

end
-- ==== Proof.KernelGroup.lean ====
/-
  What the kernel computes of one group of 128 columns over the extended reals: its scale, codes and read-back values are those
  of the plain quantiser, row by row.
-/
module

public import proofs.«01_k».proof.Proof.Blocks
public import proofs.«01_k».proof.Proof.Quant
public import Idealize.ShloMosaic.PureOps.Ideal.Laws
public import Idealize.ShloMosaic.Lib.MatmulPlain
public import Idealize.ShloMosaic.Lib.Pipeline.Value

@[expose] public section

noncomputable section

namespace Cert.KernelIdeal.Value

open Idealize.ShloMosaic Idealize.ShloMosaic.TcCoe
open Cert.KernelIdeal.Gen Cert.Exponent Cert.Quant
open Idealize.ShloMosaic.ValueIdx (ix1 ix2 ix3)

/-- Row `r` of a group. -/
abbrev rowOf (v : Vec Ideal S512x128 .bf16) (r : Fin 512) : Fin 128 → EReal := fun k => v (ix2 r k)

theorem ratio_apply (v : Vec Ideal S512x128 .bf16) (r : Fin 512) (z : Fin 1) :
    ratio v (ix2 r z) = ratioOf (rowOf v r) := by
  unfold ratio
  rw [shapeCast_self]
  show shapeCast S512x1 _ _ (ix2 r z) * Ideal.ofBits .f32 0x3B124925#32 = _
  rw [shapeCast_apply _ _ (ix2 r z) (ix1 r) (by
    rw [Shape.rowMajor_val_one, Shape.rowMajor_val_two]
    show r.val = r.val * 1 + z.val
    omega)]
  refine congrArg (· * Ideal.ofBits .f32 0x3B124925#32) ((Ideal.multiReduction_maximumf_single (φ := .f32)
    (absf (extf .f32 v bitsLt_bf16_f32)) 0xFF800000#32 reduces_S512x128_S512 (.inl rfl) rfl (ix1 r)).trans ?_)
  refine congrArg (fun g => Finset.fold max _ g (Finset.univ : Finset (Fin 128))) (funext fun k => ?_)
  have e : reduces_S512x128_S512.lift (ix1 r) k = ix2 r k := by
    funext a
    match a with
    | ⟨0, _⟩ => rfl
    | ⟨1, _⟩ => rfl
  show max (v (reduces_S512x128_S512.lift (ix1 r) k)) (-(v (reduces_S512x128_S512.lift (ix1 r) k))) = _
  rw [e]
  rfl

theorem grow_apply (y : FVec Ideal S512x1 .f32) (b : BitVec 32) (e : IVec S512x1 32) (i : S512x1.Idx) :
    grow y b e i = grow1 (y i) b (e i) := rfl

theorem expo_apply (y : FVec Ideal S512x1 .f32) (i : S512x1.Idx) : expo y i = expo1 (y i) := by
  unfold expo expo1
  simp only [grow_apply]
  rfl

theorem nextPow_apply (e : IVec S512x1 32) (i : S512x1.Idx) : nextPow e i = next1 (e i) := rfl

theorem scaleWord_apply (v : Vec Ideal S512x128 .bf16) (r : Fin 512) (z : Fin 1) :
    scaleWord v (ix2 r z) = next1 (expo1 (ratioOf (rowOf v r))) := by
  unfold scaleWord
  rw [nextPow_apply, expo_apply, ratio_apply]

/-- A group's scale. -/
theorem scaleVec_apply (v : Vec Ideal S512x128 .bf16) (r : Fin 512) (z : Fin 1) (h : ∀ k, Small (rowOf v r k)) :
    scaleVec v (ix2 r z) = Exponent.scaleOf (ratioOf (rowOf v r)) := by
  show Ideal.ofBits .f32 (scaleWord v (ix2 r z)) = _
  rw [scaleWord_apply]
  exact (search_group _ h).1

theorem column (x : S512x1.Idx → EReal) (r : Fin 512) (k : Fin 128) :
    broadcastTo S512x128 x broadcasts_S512x1_S512x128 (ix2 r k) = x (ix2 r 0) := by
  refine broadcastTo_apply x _ (ix2 r k) (ix2 r 0) fun a => ?_
  match a with
  | ⟨0, _⟩ => rfl
  | ⟨1, _⟩ => rfl

/-- A group's codes. -/
theorem codesVec_apply (v : Vec Ideal S512x128 .bf16) (r : Fin 512) (k : Fin 128) (h : ∀ k, Small (rowOf v r k)) :
    codesVec v (ix2 r k) = codeOf (rowOf v r) k := by
  unfold codesVec
  rw [shapeCast_self]
  show min (Ideal.ofBits .f32 0x43E00000#32) (max (Ideal.ofBits .f32 0xC3E00000#32)
    (v (ix2 r k) * broadcastTo S512x128 _ broadcasts_S512x1_S512x128 (ix2 r k))) = _
  rw [column]
  show min _ (max _ (_ * Ideal.ofBits .f32 (IntOp.subi 2130706432#32 (scaleWord v (ix2 r 0))))) = _
  rw [scaleWord_apply, (search_group _ h).2]
  rfl

/-- A group read back. -/
theorem xsVec_apply (v : Vec Ideal S512x128 .bf16) (r : Fin 512) (k : Fin 128) (h : ∀ k, Small (rowOf v r k)) :
    xsVec v (ix2 r k) = backOf (rowOf v r) k := by
  unfold xsVec
  rw [shapeCast_self]
  show codesVec v (ix2 r k) * broadcastTo S512x128 _ broadcasts_S512x1_S512x128 (ix2 r k) = _
  rw [column, codesVec_apply v r k h]
  show _ * scaleVec v (ix2 r 0) = _
  rw [scaleVec_apply v r 0 h]
  rfl

/-- The scales of the first `n` groups, at a column below `n`, are that group's. -/
theorem scales_apply (s : (g : ℕ) → g < 64 → FVec Ideal S512x1 .f32) (r : Fin 512) (c : Fin 64) :
    ∀ (n : ℕ) (hn : n ≤ 64), c.val < n → scales s n hn (ix2 r c) = s c.val c.isLt (ix2 r 0)
  | 0, _, h => absurd h (Nat.not_lt_zero _)
  | n + 1, hn, h => by
    show Scalar.select (IntOp.cmpi .eq (iota .tc S512x64 32 [1] iota_S512x64_d1_w32 (ix2 r c)) (BitVec.ofNat 32 n))
      (broadcastTo S512x64 (shapeCast S512x1 (s n hn) shapeCasts_S512x1_S512x1) broadcasts_S512x1_S512x64 (ix2 r c))
      (scales s n (Nat.le_of_succ_le hn) (ix2 r c)) = _
    rw [iota_single_apply, shapeCast_self,
      broadcastTo_apply (s n hn) broadcasts_S512x1_S512x64 (ix2 r c) (ix2 r 0) (fun a => by
        match a with
        | ⟨0, _⟩ => rfl
        | ⟨1, _⟩ => rfl)]
    show Scalar.select (IntOp.cmpi .eq (BitVec.ofNat 32 c.val) (BitVec.ofNat 32 n)) _ _ = _
    have hc : c.val < 64 := c.isLt
    have inj : BitVec.ofNat 32 c.val = BitVec.ofNat 32 n ↔ c.val = n := by
      constructor
      · intro e
        have := congrArg BitVec.toNat e
        simp only [BitVec.toNat_ofNat] at this
        omega
      · intro e; rw [e]
    by_cases e : c.val = n
    · subst e
      simp [Scalar.select, IntOp.cmpi]
    · have : IntOp.cmpi .eq (BitVec.ofNat 32 c.val) (BitVec.ofNat 32 n) = 0#1 := by
        simp only [IntOp.cmpi]
        rw [beq_eq_false_iff_ne.mpr fun h => e (inj.mp h)]
        rfl
      rw [this]
      show scales s n _ (ix2 r c) = _
      exact scales_apply s r c n _ (by omega)

/-! ## The blocks -/

/-- Row `r`, group `g` of a block of activations. -/
abbrev blockRow (x : Vec Ideal S512x8192 .bf16) (r : Fin 512) (g : ℕ) (h : g < 64) : Fin 128 → EReal := fun k =>
  x (ix2 (n0 := 512) (n1 := 8192) r ⟨128 * g + k.val, by have := k.isLt; omega⟩)

theorem rowOf_group (x : Vec Ideal S512x8192 .bf16) (r : Fin 512) (g : ℕ) (h : g < 64) :
    rowOf (groupOf x g h) r = blockRow x r g h := by
  funext k
  show x ((groupRect g h).toLoadRect.idx (ix2 r k)) = _
  refine congrArg x (funext fun a => ?_)
  match a with
  | ⟨0, _⟩ => exact Fin.ext (by show 0 + 1 * r.val = r.val; omega)
  | ⟨1, _⟩ => exact Fin.ext (by show 128 * g + 1 * k.val = 128 * g + k.val; omega)

theorem small_block {x : Vec Ideal S512x8192 .bf16} (hx : ∀ y, Small (x y)) (r : Fin 512) (g : ℕ) (h : g < 64) (k : Fin 128) :
    Small (rowOf (groupOf x g h) r k) := by
  rw [rowOf_group]; exact hx _

/-- The codes of a block. -/
theorem codesB_apply (x : Vec Ideal S512x8192 .bf16) (hx : ∀ y, Small (x y)) (r : Fin 512) (c : Fin 8192) :
    codesB x (ix2 r c) = codeOf (blockRow x r (c.val / 128) (by have := c.isLt; omega)) ⟨c.val % 128, Nat.mod_lt _ (by decide)⟩ := by
  show codesVec (groupOf x (c.val / 128) _) (ix2 r ⟨c.val % 128, _⟩) = _
  rw [codesVec_apply _ _ _ (small_block hx r _ _), rowOf_group]

/-- A block read back. -/
theorem xsB_apply (x : Vec Ideal S512x8192 .bf16) (hx : ∀ y, Small (x y)) (r : Fin 512) (c : Fin 8192) :
    xsB x (ix2 r c) = backOf (blockRow x r (c.val / 128) (by have := c.isLt; omega)) ⟨c.val % 128, Nat.mod_lt _ (by decide)⟩ := by
  show xsVec (groupOf x (c.val / 128) _) (ix2 r ⟨c.val % 128, _⟩) = _
  rw [xsVec_apply _ _ _ (small_block hx r _ _), rowOf_group]

/-- The scales of a block. -/
theorem scB_apply (x : Vec Ideal S512x8192 .bf16) (hx : ∀ y, Small (x y)) (r : Fin 512) (g : Fin 64) :
    scB x (ix2 r g) = Exponent.scaleOf (ratioOf (blockRow x r g.val g.isLt)) := by
  unfold scB
  rw [scales_apply _ r g 64 le_rfl g.isLt, scaleVec_apply _ _ _ (small_block hx r _ _), rowOf_group]

/-! ## The weights -/

theorem wTile_apply (t : Vec Ideal S1x128x128 .fp8e4m3) (sv : EReal) (a b : Fin 128) :
    wTile (F := Ideal) t sv (ix2 a b) = t (ix3 (0 : Fin 1) a b) * sv := by
  unfold wTile
  show shapeCast S128x128 t shapeCasts_S1x128x128_S128x128 (ix2 a b) * sv = _
  rw [shapeCast_apply t _ (ix2 a b) (ix3 (0 : Fin 1) a b) (by
    rw [Shape.rowMajor_val_three, Shape.rowMajor_val_two]
    show (0 * 128 + a.val) * 128 + b.val = a.val * 128 + b.val
    omega)]

/-- Two tiles side by side: column `b` lies in tile `b / 128`. -/
theorem wRow_apply (t : Fin 2 → Vec Ideal S1x128x128 .fp8e4m3) (s : Fin 2 → EReal) (a : Fin 128) (b : Fin 256) :
    wRow (F := Ideal) (t 0) (s 0) (t 1) (s 1) (ix2 a b)
      = t ⟨b.val / 128, by have := b.isLt; omega⟩ (ix3 (0 : Fin 1) a ⟨b.val % 128, Nat.mod_lt _ (by decide)⟩)
        * s ⟨b.val / 128, by have := b.isLt; omega⟩ := by
  have hb := b.isLt
  unfold wRow
  by_cases h : b.val < 128
  · rw [concatenate_pair_apply_left (t := S128x256) (s₁ := S128x128) (s₂ := S128x128) 1 _ _ _ (ix2 a b) rfl
      (ix2 (n0 := 128) (n1 := 128) a ⟨b.val, h⟩) (fun c => by
        match c with
        | ⟨0, _⟩ => rfl
        | ⟨1, _⟩ => rfl), wTile_apply]
    have e : (⟨b.val / 128, by omega⟩ : Fin 2) = 0 := Fin.ext (by show b.val / 128 = 0; omega)
    have e' : (⟨b.val % 128, Nat.mod_lt _ (by decide)⟩ : Fin 128) = ⟨b.val, h⟩ := Fin.ext (by show b.val % 128 = b.val; omega)
    rw [e, e']
  · rw [concatenate_pair_apply_right (t := S128x256) (s₁ := S128x128) (s₂ := S128x128) 1 _ _ _ (ix2 a b) rfl rfl
      (ix2 (n0 := 128) (n1 := 128) a ⟨b.val - 128, by omega⟩) (fun c hc => by
        match c with
        | ⟨0, _⟩ => rfl
        | ⟨1, _⟩ => exact absurd rfl hc) (by show b.val - 128 + 128 = b.val; omega), wTile_apply]
    have e : (⟨b.val / 128, by omega⟩ : Fin 2) = 1 := Fin.ext (by show b.val / 128 = 1; omega)
    have e' : (⟨b.val % 128, Nat.mod_lt _ (by decide)⟩ : Fin 128) = ⟨b.val - 128, by omega⟩ := Fin.ext (by show b.val % 128 = b.val - 128; omega)
    rw [e, e']

/-- A head's weight at row `k`, column `n`. -/
theorem wHead_apply (t : Fin 64 → Fin 2 → Vec Ideal S1x128x128 .fp8e4m3) (s : Fin 64 → Fin 2 → EReal) (k : Fin 8192) (n : Fin 256) :
    wHead (F := Ideal) t s (ix2 k n)
      = t ⟨k.val / 128, by have := k.isLt; omega⟩ ⟨n.val / 128, by have := n.isLt; omega⟩
          (ix3 (0 : Fin 1) ⟨k.val % 128, Nat.mod_lt _ (by decide)⟩ ⟨n.val % 128, Nat.mod_lt _ (by decide)⟩)
        * s ⟨k.val / 128, by have := k.isLt; omega⟩ ⟨n.val / 128, by have := n.isLt; omega⟩ := by
  unfold wHead
  rw [concatenate_ofFn_apply (t := S8192x256) (s₁ := S128x256) 0 (fun k : Fin 64 => wRow (F := Ideal) (t k 0) (s k 0) (t k 1) (s k 1)) _ rfl 128 rfl (ix2 k n)
    ⟨k.val / 128, by have := k.isLt; omega⟩ rfl (ix2 (n0 := 128) (n1 := 256) ⟨k.val % 128, Nat.mod_lt _ (by decide)⟩ n) rfl (fun c hc => by
      match c with
      | ⟨0, _⟩ => exact absurd rfl hc
      | ⟨1, _⟩ => rfl)]
  exact wRow_apply (t ⟨k.val / 128, _⟩) (s ⟨k.val / 128, _⟩) _ n

/-- A head's product at token `r`, column `n`. -/
theorem outHead_apply (xs : Vec Ideal S512x8192 .bf16) (w : FVec Ideal S8192x256 .bf16) (r : Fin 512) (n : Fin 256) :
    outHead xs w (ix2 r n) = Ideal.ofBits .f32 0x00000000#32 + ∑ k : Fin 8192, xs (ix2 r k) * w (ix2 k n) :=
  Ideal.matmul_plain_apply (M := 512) (K := 8192) (N := 256) (φ₁ := .bf16) (φ₂ := .bf16) none xs w _ r n

/-- Head `h` of the point's weights at row `k`, column `n`. -/
theorem wB_apply (ws : Vec Ideal S16x2x64 .f32) (w : Vec Ideal S2x8192x256 .fp8e4m3) (i : grid0.Coords) (h : Fin 2) (k : Fin 8192) (n : Fin 256) :
    wB ws w i h (ix2 k n)
      = w (ix3 h k n) * ws (ix3 (n0 := 16) (n1 := 2) (n2 := 64)
          ⟨2 * (i 1).val + h.val, by have : (i 1).val < 8 := (i 1).isLt; have := h.isLt; omega⟩
          ⟨n.val / 128, by have := n.isLt; omega⟩ ⟨k.val / 128, by have := k.isLt; omega⟩) := by
  unfold wB
  rw [wHead_apply]
  have hk := k.isLt; have hn := n.isLt
  congr 1
  · show w ((tileRect _ _ _).toLoadRect.idx (ix3 _ _ _)) = _
    refine congrArg w (funext fun a => ?_)
    match a with
    | ⟨0, _⟩ => exact Fin.ext (by show h.val + 1 * 0 = h.val; omega)
    | ⟨1, _⟩ => exact Fin.ext (by show 128 * (k.val / 128) + 1 * (k.val % 128) = k.val; omega)
    | ⟨2, _⟩ => exact Fin.ext (by show 128 * (n.val / 128) + 1 * (n.val % 128) = n.val; omega)
  · show ws ((scaleRect i _ _ _).toLoadRect.idx (Shape.Idx.first (s := S1x1x1) one_pos)) = _
    have e := scaleOff_eq i h ⟨k.val / 128, by omega⟩ ⟨n.val / 128, by omega⟩
    refine congrArg ws (funext fun a => ?_)
    have z : ∀ b, (Shape.Idx.first (s := S1x1x1) one_pos b).val = 0 := fun b => by
      have := (Shape.Idx.first (s := S1x1x1) one_pos b).isLt
      match b with
      | ⟨0, _⟩ => exact Nat.lt_one_iff.mp this
      | ⟨1, _⟩ => exact Nat.lt_one_iff.mp this
      | ⟨2, _⟩ => exact Nat.lt_one_iff.mp this
    refine Fin.ext ?_
    show scaleOff i h _ _ a + 1 * (Shape.Idx.first (s := S1x1x1) one_pos a).val = _
    rw [e, z]
    match a with
    | ⟨0, _⟩ => rfl
    | ⟨1, _⟩ => rfl
    | ⟨2, _⟩ => rfl

/-- The point's block of the product. -/
theorem outB_apply (xs : Vec Ideal S512x8192 .bf16) (ws : Vec Ideal S16x2x64 .f32) (w : Vec Ideal S2x8192x256 .fp8e4m3) (i : grid0.Coords)
    (r : Fin 512) (n : Fin 512) :
    outB xs ws w i (ix2 r n) = Ideal.ofBits .f32 0x00000000#32 + ∑ k : Fin 8192, xs (ix2 r k) *
      (w (ix3 (n0 := 2) (n1 := 8192) (n2 := 256) ⟨n.val / 256, by have := n.isLt; omega⟩ k ⟨n.val % 256, Nat.mod_lt _ (by decide)⟩)
        * ws (ix3 (n0 := 16) (n1 := 2) (n2 := 64)
          ⟨2 * (i 1).val + n.val / 256, by have : (i 1).val < 8 := (i 1).isLt; have := n.isLt; omega⟩
          ⟨n.val % 256 / 128, by have := n.isLt; omega⟩ ⟨k.val / 128, by have := k.isLt; omega⟩)) := by
  show outHead xs (wB ws w i ⟨n.val / 256, _⟩) (ix2 r ⟨n.val % 256, _⟩) = _
  rw [outHead_apply]
  refine congrArg (_ + ·) (Finset.sum_congr rfl fun k _ => ?_)
  rw [wB_apply]

end Cert.KernelIdeal.Value

end
-- ==== Proof.KernelReads.lean ====
/-
  What the ideal kernel reads at a grid point: the blocks of its three operands, element by element, from the arguments.
-/
module

public import proofs.«01_k».proof.Proof.Run
public import proofs.«01_k».proof.Proof.KernelGroup

@[expose] public section

set_option maxRecDepth 16384

noncomputable section

namespace Cert.KernelIdeal.Value

open Idealize.ShloMosaic hiding ix1 ix2 ix3 eq_ix2
open Idealize.ShloMosaic.TcCoe Idealize.ShloMosaic.Tactic Idealize.SL.Sem
open Idealize.ShloMosaic.ValueIdx (ix1 ix2 ix3 eq_ix2)
open Cert.KernelIdeal.Gen Cert.Exponent Cert.Quant
open Idealize.ShloMosaic.Pipeline (Dat Cfg Window)

variable (m : (ℓ : Loc nD τ sig) → Buf (Elt Ideal) ℓ)

/-- The activations. -/
abbrev argX (c : Dev nD) : SX.Idx → EReal := m ((c : Thread nD τ).loc main_arg0)
/-- The weights. -/
abbrev argW (c : Dev nD) : SW.Idx → EReal := m ((c : Thread nD τ).loc main_arg1)
/-- The weights' scales. -/
abbrev argS (c : Dev nD) : SS.Idx → EReal := m ((c : Thread nD τ).loc main_arg2)

theorem V_x (c : Dev nD) : V m c main_v1 = shapeCast S12288x8192 (argX m c) shapeCasts_S2x6144x8192_S12288x8192 := by
  unfold_abbrev_sides
  after_results
  rfl

theorem V_s (c : Dev nD) : V m c main_v0 = transpose S16x2x64 [0, 2, 1] (argS m c) transposes_S16x64x2_S16x2x64_0_2_1 := by
  unfold_abbrev_sides
  after_results

/-- The activations with the tokens of both sequences counted on. -/
theorem V_x_apply (c : Dev nD) (r : Fin 12288) (k : Fin 8192) :
    V m c main_v1 (ix2 r k) = argX m c (ix3 (n0 := 2) (n1 := 6144) (n2 := 8192) ⟨r.val / 6144, by have := r.isLt; omega⟩
      ⟨r.val % 6144, Nat.mod_lt _ (by decide)⟩ k) := by
  rw [V_x]
  refine shapeCast_apply _ _ (ix2 r k) _ ?_
  rw [Shape.rowMajor_val_three, Shape.rowMajor_val_two]
  show (r.val / 6144 * 6144 + r.val % 6144) * 8192 + k.val = r.val * 8192 + k.val
  omega

theorem V_s_apply (c : Dev nD) (h : Fin 16) (b : Fin 2) (k : Fin 64) :
    V m c main_v0 (ix3 h b k) = argS m c (ix3 (n0 := 16) (n1 := 64) (n2 := 2) h k b) := by
  rw [V_s]
  refine transpose_apply _ _ _ (ix3 h b k) _ fun a => ?_
  match a with
  | ⟨0, _⟩ => rfl
  | ⟨1, _⟩ => rfl
  | ⟨2, _⟩ => rfl

/-! ## The blocks of the inputs at a point -/

theorem index_facts : ∀ t : Fin cfg0.N, win0_2.index t = ![t.val % 8, 0, 0] ∧ win0_3.index t = ![t.val / 8, t.val % 8]
    ∧ win0_4.index t = ![t.val / 8, 0] ∧ win0_5.index t = ![t.val / 8, 0] ∧ win0_0.index t = ![0, 0, 0] :=
  (by decide +kernel : ∀ t : Fin grid0.N, _)

theorem coord1 (t : Fin cfg0.N) : (grid0.coords t 1).val = t.val % 8 :=
  (by decide +kernel : ∀ t : Fin grid0.N, (grid0.coords t 1).val = t.val % 8) t

/-- The scales' block is the whole array at every point. -/
theorem iblk0 (c : Dev nD) (t : Fin cfg0.N) : iblk m c 0 t = V m c main_v0 := by
  have e := (index_facts t).2.2.2.2
  blk_ext! [iblk, e]

/-- The weights' block is a pair of heads. -/
theorem iblk2 (c : Dev nD) (t : Fin cfg0.N) (h : Fin 2) (k : Fin 8192) (n : Fin 256) :
    iblk m c 2 t (ix3 h k n) = argW m c (ix3 (n0 := 16) (n1 := 8192) (n2 := 256)
      ⟨2 * (t.val % 8) + h.val, by have := h.isLt; omega⟩ k n) := by
  have e := (index_facts t).1
  blk_simp [iblk]
  rw [V_main_arg1]
  refine congrArg (argW m c) ?_
  blk_ext [e]
  show t.val % 8 * 2 + h.val = _
  omega

/-- A row of the block of activations at row block `R` is a group of one token. -/
theorem blockRow_eq (c : Dev nD) (R : ℕ) (hR : R < 24) (r : Fin 512) (g : ℕ) (hg : g < 64) :
    blockRow (xBlk m c R) r g hg = group (argX m c) (R * 512 + r.val) g := by
  have hr := r.isLt
  funext k
  have hk := k.isLt
  have e : xBlk m c R (ix2 (n0 := 512) (n1 := 8192) r ⟨128 * g + k.val, by omega⟩)
      = V m c main_v1 (ix2 (n0 := 12288) (n1 := 8192) ⟨R * 512 + r.val, by omega⟩ ⟨128 * g + k.val, by omega⟩) := by
    refine congrArg (V m c main_v1) (funext fun a => ?_)
    match a with
    | ⟨0, _⟩ => exact Fin.ext (by show (512 * R + r.val) % 12288 = R * 512 + r.val; omega)
    | ⟨1, _⟩ => rfl
  show xBlk m c R (ix2 (n0 := 512) (n1 := 8192) r ⟨128 * g + k.val, _⟩) = _
  rw [e, V_x_apply]
  refine congrArg (argX m c) (funext fun a => ?_)
  match a with
  | ⟨0, _⟩ => exact Fin.ext (by show (R * 512 + r.val) / 6144 = (R * 512 + r.val) / 6144 % 2; omega)
  | ⟨1, _⟩ => rfl
  | ⟨2, _⟩ => exact Fin.ext (by show 128 * g + k.val = (128 * g + k.val) % 8192; omega)

theorem small_xBlk (c : Dev nD) (hx : ∀ y, Small (argX m c y)) (R : ℕ) (y : S512x8192.Idx) : Small (xBlk m c R y) := by
  show Small (V m c main_v1 _)
  rw [V_x]
  exact hx _

end Cert.KernelIdeal.Value

end
-- ==== Proof.KernelValue.lean ====
/-
  What the ideal kernel's three output arrays hold at the end of a run: the product, the codes and the scales of the plain
  mathematics, element by element.
-/
module

public import proofs.«01_k».proof.Proof.KernelReads

@[expose] public section

set_option maxRecDepth 16384

noncomputable section

namespace Cert.KernelIdeal.Value

open Idealize.ShloMosaic hiding ix1 ix2 ix3 eq_ix2
open Idealize.ShloMosaic.TcCoe Idealize.ShloMosaic.Tactic Idealize.SL.Sem
open Idealize.ShloMosaic.ValueIdx (ix1 ix2 ix3 eq_ix2)
open Cert.KernelIdeal.Gen Cert.Exponent Cert.Quant
open Idealize.ShloMosaic.Pipeline (Dat Cfg Window)

variable (m : (ℓ : Loc nD τ sig) → Buf (Elt Ideal) ℓ)

/-! ## The arrays -/

variable (c : Dev nD)

/-- The array of the codes. -/
theorem codes_final (hx : ∀ y, Small (argX m c y)) : (dats m 0 c).arrAt 4 cfg0.N = fun i => codeAt (argX m c) (i 0).val (i 1).val := by
  refine (dats m 0 c).arrAt_eq_of_covers 4 _ (by decide +kernel) fun t hf y => ?_
  have hN : t.val < 192 := lt_of_lt_of_eq t.isLt (show cfg0.N = 192 from N_0)
  have e := (index_facts t).2.2.1
  blk_simp [e]
  rw [after0_4]
  obtain ⟨r, k, rfl⟩ : ∃ (r : Fin 512) (k : Fin 8192), y = ix2 r k := ⟨y 0, y 1, eq_ix2 _⟩
  rw [codesB_apply _ (small_xBlk m c hx _), blockRow_eq m c _ (by omega)]
  show _ = codeAt (argX m c) (t.val / 8 * 512 + r.val) k.val
  unfold codeAt
  rfl

/-- The array of the scales. -/
theorem scales_final (hx : ∀ y, Small (argX m c y)) : (dats m 0 c).arrAt 5 cfg0.N = fun i => scaleAt (argX m c) (i 0).val (i 1).val := by
  refine (dats m 0 c).arrAt_eq_of_covers 5 _ (by decide +kernel) fun t hf y => ?_
  have hN : t.val < 192 := lt_of_lt_of_eq t.isLt (show cfg0.N = 192 from N_0)
  have e := (index_facts t).2.2.2.1
  blk_simp [e]
  rw [after0_5]
  obtain ⟨r, k, rfl⟩ : ∃ (r : Fin 512) (k : Fin 64), y = ix2 r k := ⟨y 0, y 1, eq_ix2 _⟩
  rw [scB_apply _ (small_xBlk m c hx _), blockRow_eq m c _ (by omega)]
  show _ = scaleAt (argX m c) (t.val / 8 * 512 + r.val) k.val
  unfold scaleAt
  rfl

/-- One factor of the weights at a point is the factor of the whole. -/
theorem weight_eq (t : Fin cfg0.N) (k : Fin 8192) (n : Fin 512) :
    HMul.hMul (α := EReal) (β := EReal) (γ := EReal)
      (iblk m c 2 t (ix3 (n0 := 2) (n1 := 8192) (n2 := 256) ⟨n.val / 256, by have := n.isLt; omega⟩ k ⟨n.val % 256, Nat.mod_lt _ (by decide)⟩))
      (iblk m c 0 t (ix3 (n0 := 16) (n1 := 2) (n2 := 64) ⟨2 * (grid0.coords t 1).val + n.val / 256, by rw [coord1]; have := n.isLt; omega⟩
        ⟨n.val % 256 / 128, by omega⟩ ⟨k.val / 128, by have := k.isLt; omega⟩))
      = weightAt (argW m c) (argS m c) k.val (t.val % 8 * 512 + n.val) := by
  have hn := n.isLt
  have hk := k.isLt
  rw [iblk2, iblk0, V_s_apply]
  unfold weightAt
  congr 1
  · refine congrArg (argW m c) (funext fun a => ?_)
    match a with
    | ⟨0, _⟩ => exact Fin.ext (by show 2 * (t.val % 8) + n.val / 256 = (t.val % 8 * 512 + n.val) / 256 % 16; omega)
    | ⟨1, _⟩ => exact Fin.ext (by show k.val = k.val % 8192; omega)
    | ⟨2, _⟩ => exact Fin.ext (by show n.val % 256 = (t.val % 8 * 512 + n.val) % 256; omega)
  · refine congrArg (argS m c) (funext fun a => ?_)
    match a with
    | ⟨0, _⟩ =>
      refine Fin.ext ?_
      show 2 * (grid0.coords t 1).val + n.val / 256 = (t.val % 8 * 512 + n.val) / 256 % 16
      rw [coord1]
      omega
    | ⟨1, _⟩ => exact Fin.ext (by show k.val / 128 = k.val / 128 % 64; omega)
    | ⟨2, _⟩ => exact Fin.ext (by show n.val % 256 / 128 = (t.val % 8 * 512 + n.val) % 256 / 128 % 2; omega)

/-- The array of the product. -/
theorem product_final (hx : ∀ y, Small (argX m c y)) :
    (dats m 0 c).arrAt 3 cfg0.N = fun i => productAt (argX m c) (argW m c) (argS m c) (i 0).val (i 1).val := by
  refine (dats m 0 c).arrAt_eq_of_covers 3 _ (by decide +kernel) fun t hf y => ?_
  have hN : t.val < 192 := lt_of_lt_of_eq t.isLt (show cfg0.N = 192 from N_0)
  have e := (index_facts t).2.1
  blk_simp [e]
  rw [after0_3]
  obtain ⟨r, n, rfl⟩ : ∃ (r : Fin 512) (n : Fin 512), y = ix2 r n := ⟨y 0, y 1, eq_ix2 _⟩
  show _ = productAt (argX m c) (argW m c) (argS m c) (t.val / 8 * 512 + r.val) (t.val % 8 * 512 + n.val)
  rw [outB_apply]
  unfold productAt
  refine congrArg (_ + ·) (Finset.sum_congr rfl fun k _ => ?_)
  refine congrArg₂ (· * ·) ?_ (weight_eq m c t k n)
  rw [xsB_apply _ (small_xBlk m c hx _), blockRow_eq m c _ (by omega)]
  unfold backAt
  rfl

end Cert.KernelIdeal.Value

end
-- ==== Proof.RefGroup.lean ====
/-
  What the reference's body computes from its operands, element by element.
-/
module

public import proofs.«01_k».proof.Proof.Gen.ReferenceIdeal.Frame
public import proofs.«01_k».proof.Proof.Quant
public import Idealize.ShloMosaic.Lib.Pipeline.Value
public import Idealize.ShloMosaic.Lib.Pipeline.ValueKit
public import Idealize.ShloMosaic.PureOps.Ideal.Laws
public import Idealize.ShloMosaic.Lib.MatmulPlain
public import Idealize.ShloMosaic.Lib.Claim

@[expose] public section

set_option maxRecDepth 16384

noncomputable section

namespace Cert.ReferenceIdeal.Value

open Idealize.ShloMosaic hiding ix1 ix2 ix3 eq_ix2
open Idealize.ShloMosaic.TcCoe Idealize.ShloMosaic.Tactic Idealize.SL.Sem
open Idealize.ShloMosaic.ValueIdx (ix1 ix2 ix3 eq_ix2)
open Cert.ReferenceIdeal Cert.ReferenceIdeal.Gen Cert.Exponent Cert.Quant
open Idealize.ShloMosaic.Pipeline (Dat Cfg Window)

/-! ## The body, element by element -/

/-- Group `g` of token `r` of the activations cut into groups. -/
abbrev rowOf (x : Vec Ideal S12288x64x128 .bf16) (r : Fin 12288) (g : Fin 64) : Fin 128 → EReal := fun k => x (ix3 r g k)

theorem pay3_eq (x : Vec Ideal S12288x64x128 .bf16) : k0_pay3 x = x := by
  unfold k0_pay3
  dsimp only
  rw [shapeCast_self]
  rfl

theorem amax_apply (x : Vec Ideal S12288x64x128 .bf16) (r : Fin 12288) (g : Fin 64) :
    multiReduction (F := Ideal) (φ := .f32) .maximumf [2] S12288x64 (absf (k0_pay3 x)) 0xFF800000#32 reduces_S12288x64x128_S12288x64 (.inl rfl) rfl
      (ix2 r g) = amaxOf (rowOf x r g) := by
  rw [pay3_eq]
  refine (Ideal.multiReduction_maximumf_single (φ := .f32) (absf x) 0xFF800000#32 reduces_S12288x64x128_S12288x64 (.inl rfl) rfl
    (ix2 r g)).trans ?_
  refine congrArg (fun f => Finset.fold max _ f (Finset.univ : Finset (Fin 128))) (funext fun k => ?_)
  have e : reduces_S12288x64x128_S12288x64.lift (ix2 r g) k = ix3 r g k := by
    funext a
    match a with
    | ⟨0, _⟩ => rfl
    | ⟨1, _⟩ => rfl
    | ⟨2, _⟩ => rfl
  show max (x (reduces_S12288x64x128_S12288x64.lift (ix2 r g) k)) (-(x (reduces_S12288x64x128_S12288x64.lift (ix2 r g) k))) = _
  rw [e]
  rfl

/-- The exponents, from the ratios. -/
def expoV (v : FVec Ideal S12288x64 .f32) : FVec Ideal S12288x64 .f32 :=
  select (ori (cmpf .olt v (broadcast S12288x64 (Scalar.ofBits (F := Ideal) .f32 0x00800000#32)))
      (cmpf .oeq v (broadcast S12288x64 (Scalar.ofBits (F := Ideal) .f32 0x7F800000#32))))
    (broadcast S12288x64 (Scalar.ofBits (F := Ideal) .f32 0x00000000#32))
    (addf (floor (divf (log v) (log (broadcast S12288x64 (Scalar.ofBits (F := Ideal) .f32 0x40000000#32)))))
      (broadcast S12288x64 (Scalar.ofBits (F := Ideal) .f32 0x3F800000#32)))

theorem expoV_apply (v : FVec Ideal S12288x64 .f32) (i : S12288x64.Idx) : expoV v i = exponent (v i) := rfl

theorem pay4_eq (x : Vec Ideal S12288x64x128 .bf16) : k0_pay4 x = expoV (mulf
    (multiReduction (F := Ideal) (φ := .f32) .maximumf [2] S12288x64 (absf (k0_pay3 x)) 0xFF800000#32 reduces_S12288x64x128_S12288x64 (.inl rfl) rfl)
    (broadcast S12288x64 (Scalar.ofBits (F := Ideal) .f32 0x3B124925#32))) := by
  unfold k0_pay4 expoV
  rfl

theorem scaled_apply (v : FVec Ideal S12288x64 .f32) (w : BitVec 32) (i : S12288x64.Idx) :
    mulf v (broadcast S12288x64 (Scalar.ofBits (F := Ideal) .f32 w)) i = v i * Ideal.ofBits .f32 w := rfl

theorem exp2_apply (v : FVec Ideal S12288x64 .f32) (i : S12288x64.Idx) : exp2 v i = Ideal.exp2 (v i) := rfl

/-- The exponents. -/
theorem pay4_apply (x : Vec Ideal S12288x64x128 .bf16) (r : Fin 12288) (g : Fin 64) :
    k0_pay4 x (ix2 r g) = exponent (ratioOf (rowOf x r g)) := by
  rw [pay4_eq, expoV_apply, scaled_apply, amax_apply]
  unfold ratioOf
  rfl

/-- The scales. -/
theorem pay5_apply (x : Vec Ideal S12288x64x128 .bf16) (r : Fin 12288) (g : Fin 64) :
    k0_pay5 x (ix2 r g) = Exponent.scaleOf (ratioOf (rowOf x r g)) := by
  unfold k0_pay5 Exponent.scaleOf
  rw [exp2_apply, pay4_apply]

/-- One number per group, spread over the group. -/
theorem spread (x : S12288x64.Idx → EReal) (r : Fin 12288) (g : Fin 64) (k : Fin 128) :
    broadcastTo S12288x64x128 (shapeCast S12288x64x1 x shapeCasts_S12288x64_S12288x64x1) broadcasts_S12288x64x1_S12288x64x128 (ix3 r g k)
      = x (ix2 r g) := by
  rw [broadcastTo_apply _ _ (ix3 r g k) (ix3 (n0 := 12288) (n1 := 64) (n2 := 1) r g 0) fun a => by
    match a with
    | ⟨0, _⟩ => rfl
    | ⟨1, _⟩ => rfl
    | ⟨2, _⟩ => rfl]
  refine shapeCast_apply _ _ _ (ix2 r g) ?_
  rw [Shape.rowMajor_val_three, Shape.rowMajor_val_two]
  show r.val * 64 + g.val = (r.val * 64 + g.val) * 1 + 0
  omega

/-- Scaling and clipping. -/
theorem clip_apply (a b : FVec Ideal S12288x64x128 .f32) (i : S12288x64x128.Idx) :
    truncf .fp8e4m3 (minimumf (broadcast S12288x64x128 (Scalar.ofBits (F := Ideal) .f32 0x43E00000#32))
      (maximumf (broadcast S12288x64x128 (Scalar.ofBits (F := Ideal) .f32 0xC3E00000#32)) (mulf a b))) bitsLt_fp8e4m3_f32 i
      = min (Ideal.ofBits .f32 0x43E00000#32) (max (Ideal.ofBits .f32 0xC3E00000#32) (a i * b i)) := rfl

theorem inv_apply (v : FVec Ideal S12288x64 .f32) (i : S12288x64.Idx) :
    exp2 (subf (broadcast S12288x64 (Scalar.ofBits (F := Ideal) .f32 0x00000000#32)) v) i
      = Ideal.exp2 (Ideal.ofBits .f32 0x00000000#32 - v i) := rfl

/-- The codes, group by group. -/
theorem pay6_apply (x : Vec Ideal S12288x64x128 .bf16) (r : Fin 12288) (g : Fin 64) (k : Fin 128) :
    k0_pay6 x (ix3 r g k) = codeOf (rowOf x r g) k := by
  unfold k0_pay6 codeOf invOf
  refine (clip_apply _ _ _).trans ?_
  refine congrArg (fun z => min _ (max _ z)) (congrArg₂ (· * ·) (congrFun (pay3_eq x) _) ?_)
  refine (spread _ r g k).trans ((inv_apply _ _).trans ?_)
  rw [pay4_apply]

/-- A `[12288, 64, 128]` array with the groups of a token laid side by side. -/
theorem flat (x : S12288x64x128.Idx → EReal) (r : Fin 12288) (k : Fin 8192) :
    shapeCast S12288x8192 x shapeCasts_S12288x64x128_S12288x8192 (ix2 r k)
      = x (ix3 (n0 := 12288) (n1 := 64) (n2 := 128) r ⟨k.val / 128, by have := k.isLt; omega⟩ ⟨k.val % 128, Nat.mod_lt _ (by decide)⟩) := by
  refine shapeCast_apply _ _ (ix2 r k) _ ?_
  rw [Shape.rowMajor_val_three, Shape.rowMajor_val_two]
  show (r.val * 64 + k.val / 128) * 128 + k.val % 128 = r.val * 8192 + k.val
  omega

theorem pay2_apply (x : Vec Ideal S12288x64x128 .bf16) (r : Fin 12288) (k : Fin 8192) :
    k0_pay2 (F := Ideal) (k0_pay6 x) (ix2 r k) = codeOf (rowOf x r ⟨k.val / 128, by have := k.isLt; omega⟩) ⟨k.val % 128, Nat.mod_lt _ (by decide)⟩ := by
  unfold k0_pay2
  exact (flat _ r k).trans (pay6_apply x r _ _)

theorem back_apply (a : FVec Ideal S12288x64x128 .fp8e4m3) (b : FVec Ideal S12288x64x128 .bf16) (i : S12288x64x128.Idx) :
    mulf (extf .bf16 a bitsLt_fp8e4m3_bf16) b i = (show EReal from a i) * (show EReal from b i) := rfl

theorem trunc_apply (v : FVec Ideal S12288x64 .f32) (i : S12288x64.Idx) : truncf .bf16 v bitsLt_bf16_f32 i = v i := rfl

/-- The activations read back. -/
theorem pay7_apply (x : Vec Ideal S12288x64x128 .bf16) (r : Fin 12288) (k : Fin 8192) :
    k0_pay7 x (ix2 r k) = backOf (rowOf x r ⟨k.val / 128, by have := k.isLt; omega⟩) ⟨k.val % 128, Nat.mod_lt _ (by decide)⟩ := by
  unfold k0_pay7 backOf
  refine (flat _ r k).trans ((back_apply _ _ _).trans (congrArg₂ (· * ·) (pay6_apply x r _ _) ?_))
  exact (spread _ r _ _).trans ((trunc_apply _ _).trans (pay5_apply x r _))

theorem factor_apply (w : FVec Ideal S8192x4096 .fp8e4m3) (s : FVec Ideal S8192x4096 .f32) (i : S8192x4096.Idx) :
    mulf (extf .bf16 w bitsLt_fp8e4m3_bf16) (truncf .bf16 s bitsLt_bf16_f32) i = (show EReal from w i) * (show EReal from s i) := rfl

theorem out_apply (v : FVec Ideal S12288x4096 .f32) (i : S12288x4096.Idx) : truncf .bf16 v bitsLt_bf16_f32 i = v i := rfl

/-- The product. -/
theorem pay1_apply (xs : FVec Ideal S12288x8192 .bf16) (w : Vec Ideal S8192x4096 .fp8e4m3) (s : Vec Ideal S8192x4096 .f32) (r : Fin 12288) (n : Fin 4096) :
    k0_pay1 xs (k0_pay8 w) s (ix2 r n) = Ideal.ofBits .f32 0x00000000#32
      + ∑ k : Fin 8192, HMul.hMul (α := EReal) (β := EReal) (γ := EReal) (xs (ix2 r k))
        (HMul.hMul (α := EReal) (β := EReal) (γ := EReal) (w (ix2 k n)) (s (ix2 k n))) := by
  unfold k0_pay1 k0_pay8
  rw [shapeCast_self, shapeCast_self]
  refine (out_apply _ _).trans ((Ideal.matmul_plain_apply (M := 12288) (K := 8192) (N := 4096) (φ₁ := .bf16) (φ₂ := .bf16) none xs _ _ r n).trans ?_)
  refine congrArg (_ + ·) (Finset.sum_congr rfl fun k _ => congrArg (_ * ·) (factor_apply w s (ix2 k n)))

end Cert.ReferenceIdeal.Value

end
-- ==== Proof.RefValue.lean ====
/-
  What the reference's three arrays hold: the product, the codes and the scales of the plain mathematics, element by element.
-/
module

public import proofs.«01_k».proof.Proof.Gen.ReferenceIdeal.Frame
public import proofs.«01_k».proof.Proof.RefGroup
public import Idealize.ShloMosaic.Lib.Pipeline.Value
public import Idealize.ShloMosaic.Lib.Pipeline.ValueKit
public import Idealize.ShloMosaic.PureOps.Ideal.Laws
public import Idealize.ShloMosaic.Lib.MatmulPlain
public import Idealize.ShloMosaic.Lib.Claim

@[expose] public section

set_option maxRecDepth 16384

noncomputable section

namespace Cert.ReferenceIdeal.Value

open Idealize.ShloMosaic hiding ix1 ix2 ix3 eq_ix2
open Idealize.ShloMosaic.TcCoe Idealize.ShloMosaic.Tactic Idealize.SL.Sem
open Idealize.ShloMosaic.ValueIdx (ix1 ix2 ix3 eq_ix2)
open Cert.ReferenceIdeal Cert.ReferenceIdeal.Gen Cert.Exponent Cert.Quant
open Idealize.ShloMosaic.Pipeline (Dat Cfg Window)

/-! ## The operands, from the arguments -/

variable (m : (ℓ : Loc nD τ sig) → Buf (Elt Ideal) ℓ)

/-- The activations. -/
abbrev argX (c : Dev nD) : SX.Idx → EReal := m ((c : Thread nD τ).loc main_arg0)
/-- The weights. -/
abbrev argW (c : Dev nD) : SW.Idx → EReal := m ((c : Thread nD τ).loc main_arg1)
/-- The weights' scales. -/
abbrev argS (c : Dev nD) : SS.Idx → EReal := m ((c : Thread nD τ).loc main_arg2)

theorem V_x (c : Dev nD) : V m c main_v3 = shapeCast S12288x64x128 (argX m c) shapeCasts_S2x6144x8192_S12288x64x128 := by
  unfold_abbrev_sides
  after_results
  rfl

theorem V_w (c : Dev nD) : V m c main_v5 = shapeCast S8192x4096
    (transpose S8192x16x256 [1, 0, 2] (argW m c) transposes_S16x8192x256_S8192x16x256_1_0_2) shapeCasts_S8192x16x256_S8192x4096 := by
  unfold_abbrev_sides
  after_results
  rfl

theorem V_s (c : Dev nD) : V m c main_v7 = shapeCast S8192x4096
    (transpose S8192x16x256 [1, 0, 2] (shapeCast S16x8192x256
      (broadcastInDim S16x64x128x2x128 ![0, 1, 2, 3, 4] bcast_S16x64x1x2x1_S16x64x128x2x128_0_1_2_3_4
        (broadcastInDim S16x64x1x2x1 ![0, 1, 3] bcast_S16x64x2_S16x64x1x2x1_0_1_3 (argS m c)))
      shapeCasts_S16x64x128x2x128_S16x8192x256) transposes_S16x8192x256_S8192x16x256_1_0_2) shapeCasts_S8192x16x256_S8192x4096 := by
  unfold_abbrev_sides
  after_results
  rfl

/-- The group of a token. -/
theorem V_x_row (c : Dev nD) (r : Fin 12288) (g : Fin 64) :
    rowOf (V m c main_v3) r g = group (argX m c) r.val g.val := by
  have hr := r.isLt; have hg := g.isLt
  funext k
  have hk := k.isLt
  show V m c main_v3 (ix3 r g k) = _
  rw [V_x]
  refine shapeCast_apply _ _ (ix3 r g k) _ ?_
  rw [Shape.rowMajor_val_three, Shape.rowMajor_val_three]
  show (r.val / 6144 % 2 * 6144 + r.val % 6144) * 8192 + (128 * g.val + k.val) % 8192 = (r.val * 64 + g.val) * 128 + k.val
  omega

/-- An array `[16, 8192, 256]` with the heads' columns laid side by side. -/
theorem sideBySide {α : Type} (x : S16x8192x256.Idx → α) (k : Fin 8192) (n : Fin 4096) :
    shapeCast S8192x4096 (transpose S8192x16x256 [1, 0, 2] x transposes_S16x8192x256_S8192x16x256_1_0_2) shapeCasts_S8192x16x256_S8192x4096 (ix2 k n)
      = x (ix3 (n0 := 16) (n1 := 8192) (n2 := 256) ⟨n.val / 256, by have := n.isLt; omega⟩ k ⟨n.val % 256, Nat.mod_lt _ (by decide)⟩) := by
  have hn := n.isLt
  rw [shapeCast_apply _ _ (ix2 k n) (ix3 (n0 := 8192) (n1 := 16) (n2 := 256) k ⟨n.val / 256, by omega⟩ ⟨n.val % 256, Nat.mod_lt _ (by decide)⟩) (by
    rw [Shape.rowMajor_val_three, Shape.rowMajor_val_two]
    show (k.val * 16 + n.val / 256) * 256 + n.val % 256 = k.val * 4096 + n.val
    omega)]
  refine transpose_apply _ _ _ _ _ fun a => ?_
  match a with
  | ⟨0, _⟩ => rfl
  | ⟨1, _⟩ => rfl
  | ⟨2, _⟩ => rfl

/-- The index of a `[16, 64, 128, 2, 128]` array with these coordinates. -/
def ix5 (a : Fin 16) (b : Fin 64) (c : Fin 128) (d : Fin 2) (e : Fin 128) : S16x64x128x2x128.Idx := fun i => match i with
  | ⟨0, _⟩ => a
  | ⟨1, _⟩ => b
  | ⟨2, _⟩ => c
  | ⟨3, _⟩ => d
  | ⟨4, _⟩ => e

/-- Every 128 × 128 block's scale, spread over the block. -/
theorem blockScale (s : SS.Idx → EReal) (h : Fin 16) (k : Fin 8192) (n : Fin 256) :
    shapeCast S16x8192x256
      (broadcastInDim S16x64x128x2x128 ![0, 1, 2, 3, 4] bcast_S16x64x1x2x1_S16x64x128x2x128_0_1_2_3_4
        (broadcastInDim S16x64x1x2x1 ![0, 1, 3] bcast_S16x64x2_S16x64x1x2x1_0_1_3 s))
      shapeCasts_S16x64x128x2x128_S16x8192x256 (ix3 h k n)
      = s (ix3 (n0 := 16) (n1 := 64) (n2 := 2) h ⟨k.val / 128, by have := k.isLt; omega⟩ ⟨n.val / 128, by have := n.isLt; omega⟩) := by
  have hh := h.isLt; have hk := k.isLt; have hn := n.isLt
  rw [shapeCast_apply _ _ (ix3 h k n) (ix5 h ⟨k.val / 128, by omega⟩ ⟨k.val % 128, Nat.mod_lt _ (by decide)⟩ ⟨n.val / 128, by omega⟩
    ⟨n.val % 128, Nat.mod_lt _ (by decide)⟩) (by
      rw [Shape.rowMajor_val_five, Shape.rowMajor_val_three]
      show (((h.val * 64 + k.val / 128) * 128 + k.val % 128) * 2 + n.val / 128) * 128 + n.val % 128 = (h.val * 8192 + k.val) * 256 + n.val
      omega)]
  refine (broadcastInDim_apply _ _ _ _ (fun a => match a with
    | ⟨0, _⟩ => h
    | ⟨1, _⟩ => (⟨k.val / 128, by omega⟩ : Fin 64)
    | ⟨2, _⟩ => (0 : Fin 1)
    | ⟨3, _⟩ => (⟨n.val / 128, by omega⟩ : Fin 2)
    | ⟨4, _⟩ => (0 : Fin 1)) fun a => ?_).trans (broadcastInDim_apply _ _ _ _ _ fun a => ?_)
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl

/-- The weights times their scales. -/
theorem V_ws_apply (c : Dev nD) (k : Fin 8192) (n : Fin 4096) :
    HMul.hMul (α := EReal) (β := EReal) (γ := EReal) (V m c main_v5 (ix2 k n)) (V m c main_v7 (ix2 k n)) = weightAt (argW m c) (argS m c) k.val n.val := by
  have hk := k.isLt; have hn := n.isLt
  rw [V_w, V_s, sideBySide, sideBySide, blockScale]
  unfold weightAt
  congr 1
  · refine congrArg (argW m c) (funext fun a => ?_)
    match a with
    | ⟨0, _⟩ => exact Fin.ext (by show n.val / 256 = n.val / 256 % 16; omega)
    | ⟨1, _⟩ => exact Fin.ext (by show k.val = k.val % 8192; omega)
    | ⟨2, _⟩ => rfl
  · refine congrArg (argS m c) (funext fun a => ?_)
    match a with
    | ⟨0, _⟩ => exact Fin.ext (by show n.val / 256 = n.val / 256 % 16; omega)
    | ⟨1, _⟩ => exact Fin.ext (by show k.val / 128 = k.val / 128 % 64; omega)
    | ⟨2, _⟩ => exact Fin.ext (by show n.val % 256 / 128 = n.val % 256 / 128 % 2; omega)

/-! ## The arrays -/

theorem index_facts : ∀ t : Fin cfg0.N, win0_0.index t = ![0, 0, 0] ∧ win0_1.index t = ![0, 0] ∧ win0_2.index t = ![0, 0] :=
  (by decide +kernel : ∀ t : Fin grid0.N, _)

theorem iblk0 (c : Dev nD) : iblk m c 0 t0_0 = V m c main_v3 := by
  have e := (index_facts t0_0).1
  blk_ext! [iblk, e]
theorem iblk1 (c : Dev nD) : iblk m c 1 t0_0 = V m c main_v5 := by
  have e := (index_facts t0_0).2.1
  blk_ext! [iblk, e]
theorem iblk2 (c : Dev nD) : iblk m c 2 t0_0 = V m c main_v7 := by
  have e := (index_facts t0_0).2.2
  blk_ext! [iblk, e]

variable (c : Dev nD)

/-- The array of the codes. -/
theorem codes_final : (dats m 0 c).arrAt 4 cfg0.N = fun i => codeAt (argX m c) (i 0).val (i 1).val := by
  refine (dats m 0 c).arrAt_eq_of_after_last 4 t0_0 (by decide +kernel) _ fun j => ?_
  blk_simp
  rw [after0_4, iblk0, iblk1, iblk2]
  unfold out0_4
  frame_out
  obtain ⟨r, k, rfl⟩ : ∃ (r : Fin 12288) (k : Fin 8192), j = ix2 r k := ⟨j 0, j 1, eq_ix2 _⟩
  rw [pay2_apply, V_x_row]
  rfl

/-- The array of the scales. -/
theorem scales_final : (dats m 0 c).arrAt 5 cfg0.N = fun i => scaleAt (argX m c) (i 0).val (i 1).val := by
  refine (dats m 0 c).arrAt_eq_of_after_last 5 t0_0 (by decide +kernel) _ fun j => ?_
  blk_simp
  rw [after0_5, iblk0, iblk1, iblk2]
  unfold out0_5
  frame_out
  obtain ⟨r, k, rfl⟩ : ∃ (r : Fin 12288) (k : Fin 64), j = ix2 r k := ⟨j 0, j 1, eq_ix2 _⟩
  rw [pay5_apply, V_x_row]
  rfl

/-- The array of the product. -/
theorem product_final :
    (dats m 0 c).arrAt 3 cfg0.N = fun i => productAt (argX m c) (argW m c) (argS m c) (i 0).val (i 1).val := by
  refine (dats m 0 c).arrAt_eq_of_after_last 3 t0_0 (by decide +kernel) _ fun j => ?_
  blk_simp
  rw [after0_3, iblk0, iblk1, iblk2]
  unfold out0_3
  frame_out
  obtain ⟨r, n, rfl⟩ : ∃ (r : Fin 12288) (n : Fin 4096), j = ix2 r n := ⟨j 0, j 1, eq_ix2 _⟩
  rw [pay1_apply]
  show _ = productAt (argX m c) (argW m c) (argS m c) r.val n.val
  unfold productAt
  refine congrArg (_ + ·) (Finset.sum_congr rfl fun k _ => congrArg₂ (· * ·) ?_ (V_ws_apply m c k n))
  rw [pay7_apply, V_x_row]
  unfold backAt
  rfl

end Cert.ReferenceIdeal.Value

end
-- ==== Proof.lean ====
/-
  The certificate: the frames of the kernel, of the ideal kernel and of the reference, and the equality of the kernel's three
  results with the reference's over the extended reals. Both sides are compared with one plain statement of the product, the
  codes and the scales (Proof/Quant.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame.Frame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem
open Cert.Quant

/-- The precondition's side conditions. -/
instance preFacts : Cert.Pre_bf16_values.Facts where
  bitsLt_bf16_f32 := by decide
  bcast_S_S2x6144x8192 := by decide

/-- One element's part of the precondition. -/
theorem small_of_bit (x : EReal)
    (h : IntOp.ori (Ideal.cmp .ole (max x (-x)) (Ideal.ofBits .f32 0x7F7F0000#32)) (Ideal.cmp .oeq (max x (-x)) (Ideal.ofBits .f32 0x7F800000#32)) = 1#1) :
    Small x := by
  by_cases h1 : max x (-x) ≤ Ideal.ofBits .f32 0x7F7F0000#32
  · exact Or.inl h1
  by_cases h2 : max x (-x) = Ideal.ofBits .f32 0x7F800000#32
  · exact Or.inr (h2.trans Cert.Exponent.val_inf)
  exact absurd h (by simp [Ideal.cmp, h1, h2, IntOp.ori])

/-- Under the precondition every activation is a `bfloat16` value or infinite. -/
theorem small_of_pre (m : (ℓ : Loc Cert.KernelIdeal.nD Cert.KernelIdeal.τ Cert.KernelIdeal.sig) → Buf (Elt Ideal) ℓ)
    (h : Cert.Pre_KernelIdeal_bf16_values m) (c : Dev Cert.KernelIdeal.nD) (y : SX.Idx) :
    Small (Cert.KernelIdeal.Value.argX m c y) :=
  small_of_bit _ (congrFun (h c) y)

section Kernel

open Cert.KernelIdeal Cert.KernelIdeal.Gen Cert.KernelIdeal.Value

/-- What the kernel's three arrays hold at the end of a run. -/
theorem kernel_results (m : (ℓ : Loc nD τ sig) → Buf (Elt Ideal) ℓ) (g : Dev nD → PrngReg) (hx : ∀ c y, Small (argX m c y)) :
    θ_run (defs (F := Ideal)) (onTc (τ := τ) (main (F := Ideal))) ⟨m, fun _ => 0, g⟩ (fun r => ∀ c : Dev nD,
      r.2.mem ((c.tc : Thread nD τ).loc main_v2_0) = (fun i => productAt (argX m c) (argW m c) (argS m c) (i 0).val (i 1).val)
      ∧ r.2.mem ((c.tc : Thread nD τ).loc main_v2_1) = (fun i => codeAt (argX m c) (i 0).val (i 1).val)
      ∧ r.2.mem ((c.tc : Thread nD τ).loc main_v2_2) = (fun i => scaleAt (argX m c) (i 0).val (i 1).val)) :=
  (θ_run defs _ _).mono (fun r h c => ⟨((h c).1 3).trans (product_final m c (hx c)), ((h c).1 4).trans (codes_final m c (hx c)),
    ((h c).1 5).trans (scales_final m c (hx c))⟩) (run_main m g)

end Kernel

section Reference

open Cert.ReferenceIdeal Cert.ReferenceIdeal.Gen Cert.ReferenceIdeal.Value

/-- What the reference's three arrays hold at the end of a run. -/
theorem reference_results (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v8_0) = (fun i => productAt (argX m c) (argW m c) (argS m c) (i 0).val (i 1).val)
      ∧ r.2.mem ((c.tc : Thread nD τ).loc main_v8_1) = (fun i => codeAt (argX m c) (i 0).val (i 1).val)
      ∧ r.2.mem ((c.tc : Thread nD τ).loc main_v8_2) = (fun i => scaleAt (argX m c) (i 0).val (i 1).val)) :=
  (θ_run defs _ _).mono (fun r h c => ⟨((h c).1 3).trans (product_final m c), ((h c).1 4).trans (codes_final m c),
    ((h c).1 5).trans (scales_final m c)⟩) (run_main m g)

end Reference

/-- The kernel and the reference compute the same product, codes and scales over the extended reals. -/
theorem equal : @Cert.algebraic_KernelIdeal_ReferenceIdeal_pre_bf16_values Cert.KernelIdeal.Gen.facts Cert.ReferenceIdeal.Gen.facts preFacts := by
  intro m g m' g' hpre hargs
  refine ⟨fun c i => productAt (Cert.KernelIdeal.Value.argX m c) (Cert.KernelIdeal.Value.argW m c) (Cert.KernelIdeal.Value.argS m c) (i 0).val (i 1).val,
    fun c i => codeAt (Cert.KernelIdeal.Value.argX m c) (i 0).val (i 1).val,
    fun c i => scaleAt (Cert.KernelIdeal.Value.argX m c) (i 0).val (i 1).val, ?_, ?_⟩
  · refine (θ_run _ _ _).mono (fun r h c => ?_)
      (θ_run_and (kernel_results m g (small_of_pre m hpre)) (Cert.KernelIdeal.Value.unchanged m g))
    exact ⟨(h.1 c).1, (h.1 c).2.1, (h.1 c).2.2, h.2 c⟩
  · refine (θ_run _ _ _).mono (fun r h c => ?_) (θ_run_and (reference_results m' g') (Cert.ReferenceIdeal.Gen.unchanged m' g'))
    have eX : Cert.ReferenceIdeal.Value.argX m' c = Cert.KernelIdeal.Value.argX m c := (hargs c).1
    have eW : Cert.ReferenceIdeal.Value.argW m' c = Cert.KernelIdeal.Value.argW m c := (hargs c).2.1
    have eS : Cert.ReferenceIdeal.Value.argS m' c = Cert.KernelIdeal.Value.argS m c := (hargs c).2.2
    have h1 := h.1 c
    rw [eX, eW, eS] at h1
    exact ⟨h1.1, h1.2.1, h1.2.2, h.2 c⟩

theorem claim : Cert.Claim := ⟨Cert.Kernel.Gen.facts, Cert.KernelIdeal.Gen.facts, Cert.ReferenceIdeal.Gen.facts, preFacts,
  fun m g _ => Cert.Kernel.Frame.frame m g,
  fun m g _ => Cert.KernelIdeal.Value.frame m g,
  fun m g _ => Cert.KernelIdeal.Value.frame m g,
  fun m g _ => Cert.ReferenceIdeal.Gen.frame m g,
  fun m g _ => Cert.ReferenceIdeal.Gen.frame m g,
  trivial,
  equal⟩

end Cert.Proof

end
